-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_n" .f32 0x39E38E39#32 ((1 / 2304 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_v98) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x576x8192 : Shape := ⟨3, ![4, 576, 8192]⟩
abbrev S_ : Shape := ⟨0, ![]⟩

class Facts : Prop where
  bcast_S_S4x576x8192 : S_.BroadcastsInDim S4x576x8192 (![] : Fin 0 → Fin S4x576x8192.rank)

variable [Facts]

def fn {F : FTy → Type} [FloatOps F] (main_arg0 : FVec F S4x576x8192 .f32) : IVec S4x576x8192 1 :=
  let main_v0 : FVec F S4x576x8192 .f32 := Host.absf main_arg0
  let main_cst : FVec F S_ .f32 := constant S_ .f32 0x7F800000#32
  let main_v1 : FVec F S4x576x8192 .f32 := broadcastInDim S4x576x8192 ![] bcast_S_S4x576x8192 main_cst
  let main_v2 : IVec S4x576x8192 1 := cmpf .olt main_v0 main_v1
  main_v2
-- ==== Kernel.lean ====
abbrev S4x576x8192 : Shape := ⟨3, ![4, 576, 8192]⟩
abbrev S8192 : Shape := ⟨1, ![8192]⟩
abbrev S_ : Shape := ⟨0, ![]⟩
abbrev S1x8192 : Shape := ⟨2, ![1, 8192]⟩
abbrev S8x1x288 : Shape := ⟨3, ![8, 1, 288]⟩
abbrev S2x1x288 : Shape := ⟨3, ![2, 1, 288]⟩
abbrev S1x1 : Shape := ⟨2, ![1, 1]⟩
abbrev S1x288x8192 : Shape := ⟨3, ![1, 288, 8192]⟩
abbrev S1x1x288 : Shape := ⟨3, ![1, 1, 288]⟩
abbrev S8x8192 : Shape := ⟨2, ![8, 8192]⟩
abbrev S288x128 : Shape := ⟨2, ![288, 128]⟩
abbrev S1x288x128 : Shape := ⟨3, ![1, 288, 128]⟩
abbrev S1x288x8064 : Shape := ⟨3, ![1, 288, 8064]⟩
abbrev S288x8064 : Shape := ⟨2, ![288, 8064]⟩
abbrev S288x8192 : Shape := ⟨2, ![288, 8192]⟩
abbrev S288 : Shape := ⟨1, ![288]⟩
abbrev S288x1 : Shape := ⟨2, ![288, 1]⟩
abbrev S1x288 : Shape := ⟨2, ![1, 288]⟩
abbrev S1x1x8192 : Shape := ⟨3, ![1, 1, 8192]⟩
abbrev S1 : Shape := ⟨1, ![1]⟩
abbrev S1x1x1 : Shape := ⟨3, ![1, 1, 1]⟩
abbrev S36x8x8192 : Shape := ⟨3, ![36, 8, 8192]⟩

abbrev nBuf : Space → Nat
  | .hbm => 12
  | .vmem => 14
  | .smem => 0
  | _ => 0

abbrev bufTy : (tb : Table) → Fin (tcTables nBuf tb) → BufTy
  | .hbm, ⟨0, _⟩ => ⟨S4x576x8192, .f32⟩
  | .hbm, ⟨1, _⟩ => ⟨S8192, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S1x8192, .f32⟩
  | .hbm, ⟨6, _⟩ => ⟨S4x576x8192, .f32⟩
  | .hbm, ⟨7, _⟩ => ⟨S8x1x288, .i32⟩
  | .hbm, ⟨8, _⟩ => ⟨S2x1x288, .f32⟩
  | .hbm, ⟨9, _⟩ => ⟨S1x1, .f32⟩
  | .hbm, ⟨10, _⟩ => ⟨S1x1, .f32⟩
  | .hbm, ⟨11, _⟩ => ⟨S1x1, .f32⟩
  | .local _ .vmem, ⟨0, _⟩ => ⟨S1x288x8192, .f32⟩
  | .local _ .vmem, ⟨1, _⟩ => ⟨S1x288x8192, .f32⟩
  | .local _ .vmem, ⟨2, _⟩ => ⟨S1x8192, .f32⟩
  | .local _ .vmem, ⟨3, _⟩ => ⟨S1x288x8192, .f32⟩
  | .local _ .vmem, ⟨4, _⟩ => ⟨S1x288x8192, .f32⟩
  | .local _ .vmem, ⟨5, _⟩ => ⟨S1x1x288, .i32⟩
  | .local _ .vmem, ⟨6, _⟩ => ⟨S1x1x288, .i32⟩
  | .local _ .vmem, ⟨7, _⟩ => ⟨S1x1x288, .f32⟩
  | .local _ .vmem, ⟨8, _⟩ => ⟨S1x1x288, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S8x8192, .f32⟩
  | .local _ .vmem, ⟨13, _⟩ => ⟨S1x8192, .f32⟩
  | _, _ => ⟨S4x576x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0_3 : Ref sig .tc := ⟨.hbm, 6, rfl⟩
abbrev main_v0_5 : Ref sig .tc := ⟨.hbm, 7, rfl⟩
abbrev main_v0_1 : Ref sig .tc := ⟨.hbm, 8, rfl⟩
abbrev main_v0_0 : Ref sig .tc := ⟨.hbm, 9, rfl⟩
abbrev main_v0_2 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c0_i32_33 : BitVec 32 := 0#32
  let v74 : BitVec 1 := Scalar.cmpi .eq arg1 c0_i32_33
  let v75 : BitVec 32 := Scalar.extui v74
  let c0_i32_34 : BitVec 32 := 0#32
  let v76 : BitVec 1 := Scalar.cmpi .ne v75 c0_i32_34
  v76

def k0_cond5 (i : grid0.Coords) : BitVec 1 :=
  let arg1 : BitVec 32 := BitVec.ofNat 32 (i 1).val
  let c0_i32_35 : BitVec 32 := 0#32
  let v77 : BitVec 1 := Scalar.cmpi .sgt arg1 c0_i32_35
  let v78 : BitVec 32 := Scalar.extui v77
  let c0_i32_36 : BitVec 32 := 0#32
  let v79 : BitVec 1 := Scalar.cmpi .ne v78 c0_i32_36
  v79

def k0_cond6 (i : grid0.Coords) : BitVec 1 :=
  let arg0 : BitVec 32 := BitVec.ofNat 32 (i 0).val
  let c1_i32 : BitVec 32 := 1#32
  let v80 : BitVec 1 := Scalar.cmpi .eq arg0 c1_i32
  let arg1 : BitVec 32 := BitVec.ofNat 32 (i 1).val
  let c3_i32_37 : BitVec 32 := 3#32
  let v81 : BitVec 1 := Scalar.cmpi .eq arg1 c3_i32_37
  let v82 : BitVec 1 := Scalar.andi v80 v81
  let v83 : BitVec 32 := Scalar.extui v82
  let c0_i32_38 : BitVec 32 := 0#32
  let v84 : BitVec 1 := Scalar.cmpi .ne v83 c0_i32_38
  v84

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x288x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x288x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x288 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KernelIdeal.lean ====
variable {F : FTy → Type} [FloatOps F] [Named F]
def κ : String → Option EReal := fun
  | "inv_n" => some ((1 / 2304 : ℝ) : EReal)
  | "mask" => some ⊥
  | _ => none
-- ==== ReferenceIdeal.lean ====
abbrev S4x576x8192 : Shape := ⟨3, ![4, 576, 8192]⟩
abbrev S2304x8192 : Shape := ⟨2, ![2304, 8192]⟩
abbrev S8192 : Shape := ⟨1, ![8192]⟩
abbrev S_ : Shape := ⟨0, ![]⟩
abbrev S1x8192 : Shape := ⟨2, ![1, 8192]⟩
abbrev S2304 : Shape := ⟨1, ![2304]⟩
abbrev S2304x1 : Shape := ⟨2, ![2304, 1]⟩
abbrev S2304x1x8192 : Shape := ⟨3, ![2304, 1, 8192]⟩
abbrev S2304x1x1 : Shape := ⟨3, ![2304, 1, 1]⟩
abbrev S4x576 : Shape := ⟨2, ![4, 576]⟩
abbrev S4x576x1 : Shape := ⟨3, ![4, 576, 1]⟩
abbrev S576x4x8192 : Shape := ⟨3, ![576, 4, 8192]⟩
abbrev S576x4 : Shape := ⟨2, ![576, 4]⟩
abbrev S576 : Shape := ⟨1, ![576]⟩
abbrev S1 : Shape := ⟨1, ![1]⟩
abbrev S1x1 : Shape := ⟨2, ![1, 1]⟩
abbrev S2x1x288 : Shape := ⟨3, ![2, 1, 288]⟩
abbrev S8x1x288 : Shape := ⟨3, ![8, 1, 288]⟩

abbrev nBuf : Space → Nat
  | .hbm => 149
  | .vmem => 0
  | .smem => 0
  | _ => 0

abbrev hbmTy0_0 (i : Nat) : BufTy := match i % 128 with
  | 0 => ⟨S4x576x8192, .f32⟩
  | 1 => ⟨S2304x8192, .f32⟩
  | 2 => ⟨S8192, .i32⟩
  | 3 => ⟨S_, .i32⟩
  | 4 => ⟨S8192, .i32⟩
  | 5 => ⟨S8192, .i1⟩
  | 6 => ⟨S_, .i32⟩
  | 7 => ⟨S8192, .i32⟩
  | 8 => ⟨S8192, .i1⟩
  | 9 => ⟨S8192, .i1⟩
  | 10 => ⟨S_, .i32⟩
  | 11 => ⟨S8192, .i32⟩
  | 12 => ⟨S8192, .i1⟩
  | 13 => ⟨S8192, .i1⟩
  | 14 => ⟨S_, .f32⟩
  | 15 => ⟨S_, .f32⟩
  | 16 => ⟨S8192, .f32⟩
  | 17 => ⟨S8192, .f32⟩
  | 18 => ⟨S8192, .f32⟩
  | 19 => ⟨S1x8192, .f32⟩
  | 20 => ⟨S1x8192, .f32⟩
  | 21 => ⟨S2304x8192, .f32⟩
  | 22 => ⟨S2304x8192, .f32⟩
  | 23 => ⟨S2304x8192, .i32⟩
  | 24 => ⟨S_, .f32⟩
  | 25 => ⟨S_, .i32⟩
  | 26 => ⟨S2304, .f32⟩
  | 27 => ⟨S2304, .i32⟩
  | 28 => ⟨S2304x1, .i32⟩
  | 29 => ⟨S1x8192, .i32⟩
  | 30 => ⟨S2304x8192, .i32⟩
  | 31 => ⟨S2304x8192, .i32⟩
  | 32 => ⟨S2304x8192, .i1⟩
  | 33 => ⟨S2304x8192, .f32⟩
  | 34 => ⟨S_, .f32⟩
  | 35 => ⟨S8192, .f32⟩
  | 36 => ⟨S_, .f32⟩
  | 37 => ⟨S8192, .f32⟩
  | 38 => ⟨S8192, .f32⟩
  | 39 => ⟨S_, .f32⟩
  | 40 => ⟨S8192, .f32⟩
  | 41 => ⟨S8192, .f32⟩
  | 42 => ⟨S8192, .f32⟩
  | 43 => ⟨S8192, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S2304x1x8192, .f32⟩
  | 51 => ⟨S_, .f32⟩
  | 52 => ⟨S2304x1, .f32⟩
  | 53 => ⟨S_, .f32⟩
  | 54 => ⟨S2304x1, .f32⟩
  | 55 => ⟨S2304x1, .f32⟩
  | 56 => ⟨S2304x1x1, .f32⟩
  | 57 => ⟨S2304x1x8192, .f32⟩
  | 58 => ⟨S2304x1x8192, .f32⟩
  | 59 => ⟨S2304x1x8192, .f32⟩
  | 60 => ⟨S_, .f32⟩
  | 61 => ⟨S2304x1, .f32⟩
  | 62 => ⟨S2304x1x1, .f32⟩
  | 63 => ⟨S2304x1x8192, .f32⟩
  | 64 => ⟨S2304x1x8192, .f32⟩
  | 65 => ⟨S_, .f32⟩
  | 66 => ⟨S1x8192, .f32⟩
  | 67 => ⟨S_, .f32⟩
  | 68 => ⟨S1x8192, .f32⟩
  | 69 => ⟨S1x8192, .f32⟩
  | 70 => ⟨S4x576x8192, .f32⟩
  | 71 => ⟨S_, .f32⟩
  | 72 => ⟨S4x576, .f32⟩
  | 73 => ⟨S_, .f32⟩
  | 74 => ⟨S4x576, .f32⟩
  | 75 => ⟨S4x576, .f32⟩
  | 76 => ⟨S4x576x1, .f32⟩
  | 77 => ⟨S4x576x8192, .f32⟩
  | 78 => ⟨S4x576x8192, .f32⟩
  | 79 => ⟨S4x576x8192, .f32⟩
  | 80 => ⟨S_, .f32⟩
  | 81 => ⟨S4x576, .f32⟩
  | 82 => ⟨S4x576x1, .f32⟩
  | 83 => ⟨S4x576x8192, .f32⟩
  | 84 => ⟨S4x576x8192, .f32⟩
  | 85 => ⟨S576x4x8192, .f32⟩
  | 86 => ⟨S_, .f32⟩
  | 87 => ⟨S576x4x8192, .f32⟩
  | 88 => ⟨S576x4x8192, .i1⟩
  | 89 => ⟨S576x4x8192, .f32⟩
  | 90 => ⟨S576x4x8192, .f32⟩
  | 91 => ⟨S_, .f32⟩
  | 92 => ⟨S_, .f32⟩
  | 93 => ⟨S576x4x8192, .f32⟩
  | 94 => ⟨S576x4x8192, .f32⟩
  | 95 => ⟨S_, .f32⟩
  | 96 => ⟨S576x4, .f32⟩
  | 97 => ⟨S576x4, .f32⟩
  | 98 => ⟨S_, .f32⟩
  | 99 => ⟨S576, .f32⟩
  | 100 => ⟨S_, .f32⟩
  | 101 => ⟨S576, .f32⟩
  | 102 => ⟨S576, .f32⟩
  | 103 => ⟨S_, .f32⟩
  | 104 => ⟨S1x8192, .f32⟩
  | 105 => ⟨S1x8192, .f32⟩
  | 106 => ⟨S1x8192, .f32⟩
  | 107 => ⟨S1x8192, .f32⟩
  | 108 => ⟨S_, .f32⟩
  | 109 => ⟨S1, .f32⟩
  | 110 => ⟨S1, .f32⟩
  | 111 => ⟨S1, .f32⟩
  | 112 => ⟨S_, .f32⟩
  | 113 => ⟨S_, .f32⟩
  | 114 => ⟨S_, .f32⟩
  | 115 => ⟨S2304x8192, .f32⟩
  | 116 => ⟨S2304x8192, .f32⟩
  | 117 => ⟨S_, .f32⟩
  | 118 => ⟨S2304, .f32⟩
  | 119 => ⟨S_, .f32⟩
  | 120 => ⟨S2304, .f32⟩
  | 121 => ⟨S2304, .f32⟩
  | 122 => ⟨S2304x1, .f32⟩
  | 123 => ⟨S2304x8192, .f32⟩
  | 124 => ⟨S2304x8192, .f32⟩
  | 125 => ⟨S2304x8192, .f32⟩
  | 126 => ⟨S_, .f32⟩
  | 127 => ⟨S2304, .f32⟩
  | _ => ⟨S4x576x8192, .f32⟩

abbrev hbmTy0_1 (i : Nat) : BufTy := match i % 128 with
  | 0 => ⟨S2304x1, .f32⟩
  | 1 => ⟨S2304x8192, .f32⟩
  | 2 => ⟨S2304x8192, .f32⟩
  | 3 => ⟨S2304x8192, .f32⟩
  | 4 => ⟨S2304x8192, .f32⟩
  | 5 => ⟨S4x576x8192, .f32⟩
  | 6 => ⟨S_, .f32⟩
  | 7 => ⟨S_, .f32⟩
  | 8 => ⟨S_, .f32⟩
  | 9 => ⟨S_, .f32⟩
  | 10 => ⟨S2304x8192, .i32⟩
  | 11 => ⟨S_, .f32⟩
  | 12 => ⟨S_, .i32⟩
  | 13 => ⟨S2304, .f32⟩
  | 14 => ⟨S2304, .i32⟩
  | 15 => ⟨S4x576x1, .i32⟩
  | 16 => ⟨S1x1, .f32⟩
  | 17 => ⟨S2x1x288, .f32⟩
  | 18 => ⟨S1x1, .f32⟩
  | 19 => ⟨S1x1, .f32⟩
  | 20 => ⟨S8x1x288, .i32⟩
  | _ => ⟨S4x576x8192, .f32⟩

abbrev hbmTy (i : Nat) : BufTy := match i / 128 with
  | 0 => hbmTy0_0 i
  | 1 => hbmTy0_1 i
  | _ => ⟨S4x576x8192, .f32⟩

abbrev bufTy : (tb : Table) → Fin (tcTables nBuf tb) → BufTy
  | .hbm, ⟨i, _⟩ => hbmTy i
  | _, _ => ⟨S4x576x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_call1_cst : Ref sig .tc := ⟨.hbm, 24, rfl⟩
abbrev main_call1_c : Ref sig .tc := ⟨.hbm, 25, rfl⟩
abbrev main_call1_v1_0 : Ref sig .tc := ⟨.hbm, 26, rfl⟩
abbrev main_v15 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_11 : Ref sig .tc := ⟨.hbm, 65, rfl⟩
abbrev main_v40 : Ref sig .tc := ⟨.hbm, 66, rfl⟩
abbrev main_cst_12 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_13 : Ref sig .tc := ⟨.hbm, 71, rfl⟩
abbrev main_v44 : Ref sig .tc := ⟨.hbm, 72, rfl⟩
abbrev main_cst_14 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_15 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_16 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_17 : Ref sig .tc := ⟨.hbm, 91, rfl⟩
abbrev main_call3_v0 : Ref sig .tc := ⟨.hbm, 92, rfl⟩
abbrev main_call3_v1 : Ref sig .tc := ⟨.hbm, 93, rfl⟩
abbrev main_v60 : Ref sig .tc := ⟨.hbm, 94, rfl⟩
abbrev main_cst_18 : Ref sig .tc := ⟨.hbm, 95, rfl⟩
abbrev main_v61 : Ref sig .tc := ⟨.hbm, 96, rfl⟩
abbrev main_v62 : Ref sig .tc := ⟨.hbm, 97, rfl⟩
abbrev main_cst_19 : Ref sig .tc := ⟨.hbm, 98, rfl⟩
abbrev main_v63 : Ref sig .tc := ⟨.hbm, 99, rfl⟩
abbrev main_cst_20 : Ref sig .tc := ⟨.hbm, 100, rfl⟩
abbrev main_v64 : Ref sig .tc := ⟨.hbm, 101, rfl⟩
abbrev main_v65 : Ref sig .tc := ⟨.hbm, 102, rfl⟩
abbrev main_cst_21 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_22 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_23 : Ref sig .tc := ⟨.hbm, 112, rfl⟩
abbrev main_v73 : Ref sig .tc := ⟨.hbm, 113, rfl⟩
abbrev main_cst_24 : Ref sig .tc := ⟨.hbm, 114, rfl⟩
abbrev main_v74 : Ref sig .tc := ⟨.hbm, 115, rfl⟩
abbrev main_v75 : Ref sig .tc := ⟨.hbm, 116, rfl⟩
abbrev main_cst_25 : Ref sig .tc := ⟨.hbm, 117, rfl⟩
abbrev main_v76 : Ref sig .tc := ⟨.hbm, 118, rfl⟩
abbrev main_cst_26 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_27 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_28 : Ref sig .tc := ⟨.hbm, 134, rfl⟩
abbrev main_v90 : Ref sig .tc := ⟨.hbm, 135, rfl⟩
abbrev main_cst_29 : Ref sig .tc := ⟨.hbm, 136, rfl⟩
abbrev main_v91 : Ref sig .tc := ⟨.hbm, 137, rfl⟩
abbrev main_call4_v0 : Ref sig .tc := ⟨.hbm, 138, rfl⟩
abbrev main_call4_cst : Ref sig .tc := ⟨.hbm, 139, rfl⟩
abbrev main_call4_c : Ref sig .tc := ⟨.hbm, 140, rfl⟩
abbrev main_call4_v1_0 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩

abbrev nD : Nat := 1
abbrev τ : Topo := Topo.v7x

variable {F : FTy → Type} [FloatOps F]
-- ==== Proof.IdealBody.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.VecWindow

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## What the body computes, as functions of the blocks it is given -/

/-- The first 128 lanes of the block of logits. -/
def lanesLo (x : Vec F S1x288x8192 .f32) : Vec F S1x288x128 .f32 :=
  View.ld x (Rect.unit (s := S1x288x8192) ![0, 0, 0] S1x288x128.size inb_S1x288x8192_S1x288x128_0_0_0)

/-- The remaining 8064 lanes of the block of logits. -/
def lanesHi (x : Vec F S1x288x8192 .f32) : Vec F S1x288x8064 .f32 :=
  View.ld x (Rect.unit (s := S1x288x8192) ![0, 0, 128] S1x288x8064.size inb_S1x288x8192_S1x288x8064_0_0_128)

/-- The logits with the masked lanes replaced. -/
def masked (x : Vec F S1x288x8192 .f32) : FVec F S288x8192 .f32 := k0_pay6 (lanesLo x) (lanesHi x)
/-- The row maxima. -/
def rowMax (x : Vec F S1x288x8192 .f32) : FVec F S288x1 .f32 := k0_pay7 (lanesLo x) (lanesHi x)
/-- The exponentials of the logits less their row's maximum. -/
def expo (x : Vec F S1x288x8192 .f32) : FVec F S288x8192 .f32 := k0_pay8 (lanesLo x) (lanesHi x)
/-- The reciprocals of the rows' sums of exponentials. -/
def recip (x : Vec F S1x288x8192 .f32) : FVec F S288x1 .f32 := k0_pay10 (lanesLo x) (lanesHi x)
/-- The rows' entropies. -/
def rowEnt (x : Vec F S1x288x8192 .f32) : FVec F S288 .f32 := k0_pay11 (lanesLo x) (lanesHi x)
/-- One where the logit is its row's maximum, else zero. -/
def hits (x : Vec F S1x288x8192 .f32) : FVec F S288x8192 .f32 := k0_pay12 (lanesLo x) (lanesHi x)

/-- The point is the grid's first. -/
def AtFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The count of ones over the block is exactly one for each row. -/
def Sharp (h : FVec F S288x8192 .f32) : Prop :=
  Scalar.cmpi .ne (Scalar.extui (Scalar.cmpf .oeq (k0_pay17 h) (Scalar.ofBits .f32 0x43900000#32)) : BitVec 32) 0#32 = 1#1

/-- The count of ones over the block differs from one for each row. -/
def Tied (h : FVec F S288x8192 .f32) : Prop :=
  Scalar.cmpi .ne (Scalar.extui (Scalar.cmpf .one (k0_pay17 h) (Scalar.ofBits .f32 0x43900000#32)) : BitVec 32) 0#32 = 1#1

open Classical in
/-- The one-hot block the body stores. -/
def subOut (x : Vec F S1x288x8192 .f32) : Vec F S1x288x8192 .f32 :=
  if Tied (hits x) then k0_pay23 (masked x) (rowMax x) else k0_pay13 (lanesLo x) (lanesHi x)

open Classical in
/-- The indices of the maxima the body stores. -/
def tgtOut (x : Vec F S1x288x8192 .f32) (r : Vec F S1x8192 .f32) : Vec F S1x1x288 .i32 :=
  if Tied (hits x) then k0_pay24 (masked x) (rowMax x) else k0_pay14 (hits x) r

open Classical in
/-- The running entropies after the body, from those before it. -/
def entOut (i : grid0.Coords) (x : Vec F S1x288x8192 .f32) (e : Vec F S1x1x288 .f32) : Vec F S1x1x288 .f32 :=
  if k0_cond5 i = 1#1 then k0_pay2 (rowEnt x) (if k0_cond4 i = 1#1 then k0_pay1 (rowEnt x) else e)
  else if k0_cond4 i = 1#1 then k0_pay1 (rowEnt x) else e

open Classical in
/-- The running sums of probabilities after the body, from those before it. -/
def psumOut (i : grid0.Coords) (x : Vec F S1x288x8192 .f32) (s : Vec F S8x8192 .f32) : Vec F S8x8192 .f32 :=
  k0_pay26 (expo x) (recip x) (if AtFirst i then k0_pay18 else s)

open Classical in
/-- The running counts after the body where no row has a tie. -/
def countSharp (i : grid0.Coords) (x : Vec F S1x288x8192 .f32) (n : Vec F S1x8192 .f32) : Vec F S1x8192 .f32 :=
  if Sharp (hits x) then k0_pay20 (hits x) (if AtFirst i then k0_pay19 else n) else if AtFirst i then k0_pay19 else n

open Classical in
/-- The running counts of the maxima's columns after the body, from those before it. -/
def countOut (i : grid0.Coords) (x : Vec F S1x288x8192 .f32) (n : Vec F S1x8192 .f32) : Vec F S1x8192 .f32 :=
  if Tied (hits x) then k0_pay25 (masked x) (rowMax x) (countSharp i x n) else countSharp i x n

open Classical in
/-- A scalar result after the body: stored at the last point, else what it was. -/
def lastOut (i : grid0.Coords) (new old : Vec F S1x1 .f32) : Vec F S1x1 .f32 :=
  if k0_cond6 i = 1#1 then new else old

/-- A whole store over anything, read back: the stored value. -/
theorem read_store_whole {sp : Space} {s : Shape} {e : EltTy} (v : View sig .tc sp s e) (f : _) {off : Fin s.rank → ℕ}
    (hoff : ∀ a, off a = 0) (inb : ∀ a, off a + s.size a ≤ s.size a) (w : s.Idx → Elt F e) (L : List (View.Piece (Elt F) s e)) :
    v.read (Elt F) (v.writes (Elt F) f (⟨Rect.unit off s.size inb, w⟩ :: L)) = w := by
  obtain rfl : off = fun _ => 0 := funext hoff
  exact View.read_writes_full v f inb w L

/-- A buffer left by a conditional, read back: the conditional of the two branches' readings. -/
theorem read_ite {sp : Space} {s : Shape} {e : EltTy} (v : View sig .tc sp s e) {P P' : Prop} {_ : Decidable P} {_ : Decidable P'} (hP : P ↔ P')
    {f g : v.ty.Contents (Elt F)} {a b : s.Idx → Elt F e} (hf : v.read (Elt F) f = a) (hg : v.read (Elt F) g = b) :
    v.read (Elt F) (if _h : P then f else g) = if P' then a else b := by
  by_cases h : P
  · rw [dif_pos h, if_pos (hP.mp h), hf]
  · rw [dif_neg h, if_neg (fun h' => h (hP.mpr h')), hg]

/-- The two conditional updates of the running counts, read back: `countOut`. -/
theorem read_counts (i : grid0.Coords) (x : Vec F S1x288x8192 .f32) (n : Vec F S1x8192 .f32) {sp : Space} (v : View sig .tc sp S1x8192 .f32)
    {off : Fin S1x8192.rank → ℕ} (hoff : ∀ a, off a = 0) (inb : ∀ a, off a + S1x8192.size a ≤ S1x8192.size a) {P : Prop} {_ : Decidable P}
    (hP : P ↔ Tied (hits x)) {g' : v.ty.Contents (Elt F)} {l l' : Vec F S1x8192 .f32}
    (hg' : v.read (Elt F) g' = open Classical in if Sharp (hits x) then k0_pay20 (hits x) l else if AtFirst i then k0_pay19 else n)
    (hl : l = open Classical in if AtFirst i then k0_pay19 else n) (hl' : l' = View.ld (v.read (Elt F) g') (Rect.unit off S1x8192.size inb)) :
    v.read (Elt F) (if _h : P then v.writes (Elt F) g' [⟨Rect.unit off S1x8192.size inb, k0_pay25 (masked x) (rowMax x) l'⟩] else g')
      = countOut i x n := by
  have hs : v.read (Elt F) g' = countSharp i x n := by rw [hg', hl]; rfl
  refine read_ite v hP ((read_store_whole _ _ hoff _ _ _).trans (congrArg (k0_pay25 (masked x) (rowMax x)) ?_)) hs
  rw [hl', View.ld_unit_lit _ _ hoff, hs]

set_option maxHeartbeats 4000000 in
/-- The body at any grid point, on whole staging memrefs with the stated contents: it ends with the inputs as they were and
    the outputs and the two running sums at the functions above. -/
theorem body_run (c : Dev nD) (i : grid0.Coords) (arg2 : Memref sig .tc .vmem S1x288x8192 .f32) (harg2 : arg2.IsWhole) (arg3 : Memref sig .tc .vmem S1x8192 .f32) (harg3 : arg3.IsWhole) (arg4 : Memref sig .tc .vmem S1x288x8192 .f32) (harg4 : arg4.IsWhole) (arg5 : Memref sig .tc .vmem S1x1x288 .i32) (harg5 : arg5.IsWhole) (arg6 : Memref sig .tc .vmem S1x1x288 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S8x8192 .f32) (harg10 : arg10.IsWhole) (arg11 : Memref sig .tc .vmem S1x8192 .f32) (harg11 : arg11.IsWhole)
    (hgrid : (AtFirst i ∧ k0_cond4 i = 1#1 ∧ ¬k0_cond5 i = 1#1 ∧ ¬k0_cond6 i = 1#1)
      ∨ (¬AtFirst i ∧ k0_cond4 i = 1#1 ∧ ¬k0_cond5 i = 1#1 ∧ ¬k0_cond6 i = 1#1)
      ∨ (¬AtFirst i ∧ ¬k0_cond4 i = 1#1 ∧ k0_cond5 i = 1#1 ∧ ¬k0_cond6 i = 1#1)
      ∨ (¬AtFirst i ∧ ¬k0_cond4 i = 1#1 ∧ k0_cond5 i = 1#1 ∧ k0_cond6 i = 1#1))
    (x : Vec F S1x288x8192 .f32) (r : Vec F S1x8192 .f32) (e : Vec F S1x1x288 .f32) (y7 y8 y9 : Vec F S1x1 .f32)
    (s : Vec F S8x8192 .f32) (n : Vec F S1x8192 .f32) (E : Set ℕ) (K : PUnit → sProp 𝕄) :
    iprop(owns (c : Thread nD τ) arg2 fullShare x ∗ owns (c : Thread nD τ) arg3 fullShare r
        ∗ (∃ d, owns (c : Thread nD τ) arg4 fullShare d) ∗ (∃ d, owns (c : Thread nD τ) arg5 fullShare d)
        ∗ owns (c : Thread nD τ) arg6 fullShare e ∗ owns (c : Thread nD τ) arg7 fullShare y7
        ∗ owns (c : Thread nD τ) arg8 fullShare y8 ∗ owns (c : Thread nD τ) arg9 fullShare y9
        ∗ owns (c : Thread nD τ) arg10 fullShare s ∗ owns (c : Thread nD τ) arg11 fullShare n
        ∗ (iprop(owns (c : Thread nD τ) arg2 fullShare x ∗ owns (c : Thread nD τ) arg3 fullShare r
            ∗ owns (c : Thread nD τ) arg4 fullShare (subOut x) ∗ owns (c : Thread nD τ) arg5 fullShare (tgtOut x r)
            ∗ owns (c : Thread nD τ) arg6 fullShare (entOut i x e)
            ∗ owns (c : Thread nD τ) arg7 fullShare (lastOut i (k0_pay4 (countOut i x n)) y7)
            ∗ owns (c : Thread nD τ) arg8 fullShare (lastOut i (k0_pay3 (psumOut i x s)) y8)
            ∗ owns (c : Thread nD τ) arg9 fullShare (lastOut i (k0_pay5 (psumOut i x s)) y9)
            ∗ owns (c : Thread nD τ) arg10 fullShare (psumOut i x s)
            ∗ owns (c : Thread nD τ) arg11 fullShare (countOut i x n)) -∗ K ⟨⟩))
      ⊢ wp frame (wpE (defs₀ (F := F)) Variants.none c none) E (cc0__vq_body i arg2 harg2 arg3 harg3 arg4 harg4 arg5 harg5 arg6 harg6 arg7 harg7 arg8 harg8 arg9 harg9 arg10 harg10 arg11 harg11) K := by
  rcases hgrid with ⟨hc0, hc4, hc5, hc6⟩ | ⟨hc0, hc4, hc5, hc6⟩ | ⟨hc0, hc4, hc5, hc6⟩ | ⟨hc0, hc4, hc5, hc6⟩
  all_goals
    simp only [cc0__vq_body_eq_skeleton]; unfold cc0__vq_body_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg6.eq_unread hf4
    obtain rfl := harg7.eq_unread hf5; obtain rfl := harg8.eq_unread hf6; obtain rfl := harg9.eq_unread hf7
    obtain rfl := harg10.eq_unread hfs0; obtain rfl := harg11.eq_unread hfs1
    sl_exec (disch := first | sl_exact hc0 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr
      swap; · iexact H2
      ipureintro
      sl_unfold_run_names
      simp only [View.readAt_eq_ld, Memref.IsWhole.read_unread]
      exact read_ite _ Iff.rfl (read_store_whole _ _ (by decide) _ _ _) (read_store_whole _ _ (by decide) _ _ _)
    isplitl [H3]
    · iexists _; isplitr
      swap; · iexact H3
      ipureintro
      sl_unfold_run_names
      simp only [View.readAt_eq_ld, Memref.IsWhole.read_unread]
      exact read_ite _ Iff.rfl (read_store_whole _ _ (by decide) _ _ _)
        ((read_store_whole _ _ (by decide) _ _ _).trans (congrArg (k0_pay14 _) (View.ld_unit_lit _ _ (by decide))))
    isplitl [H4]
    · iexists _; isplitr
      swap; · iexact H4
      ipureintro
      sl_unfold_run_names
      simp only [View.readAt_eq_ld, Memref.IsWhole.read_unread]
      first
      | exact (read_store_whole _ _ (by decide) _ _ _).trans ((if_neg hc5).trans (if_pos hc4)).symm
      | exact (read_store_whole _ _ (by decide) _ _ _).trans ((congrArg (k0_pay2 _) ((View.ld_unit_lit _ _ (by decide)).trans (if_neg hc4).symm)).trans (if_pos hc5).symm)
    isplitl [H5]
    · iexists _; isplitr
      swap; · iexact H5
      ipureintro
      first
      | exact (harg7.read_unread _).trans (if_neg hc6).symm
      | refine (read_store_whole _ _ (by decide) _ _ _).trans (Eq.trans ?_ (if_pos hc6).symm)
        refine congrArg k0_pay4 ?_
        sl_unfold_run_names
        simp only [View.readAt_eq_ld, Memref.IsWhole.read_unread]
        refine (View.ld_unit_lit _ _ (by decide)).trans ?_
        refine read_counts i x n _ (by decide) _ Iff.rfl
          (read_ite _ Iff.rfl (read_store_whole _ _ (by decide) _ _ _) ((harg11.read_unread _).trans (if_neg hc0).symm))
          ((View.ld_unit_lit _ _ (by decide)).trans (if_neg hc0).symm) rfl
    isplitl [H6]
    · iexists _; isplitr
      swap; · iexact H6
      ipureintro
      first
      | exact (harg8.read_unread _).trans (if_neg hc6).symm
      | refine (read_store_whole _ _ (by decide) _ _ _).trans (Eq.trans ?_ (if_pos hc6).symm)
        refine congrArg k0_pay3 ?_
        sl_unfold_run_names
        simp only [View.readAt_eq_ld, Memref.IsWhole.read_unread]
        refine (View.readCov_unit_lit _ _ _ (by decide)).trans (congrArg (k0_pay26 _ _) ?_)
        exact (View.ld_unit_lit _ _ (by decide)).trans (if_neg hc0).symm
    isplitl [H7]
    · iexists _; isplitr
      swap; · iexact H7
      ipureintro
      first
      | exact (harg9.read_unread _).trans (if_neg hc6).symm
      | refine (read_store_whole _ _ (by decide) _ _ _).trans (Eq.trans ?_ (if_pos hc6).symm)
        refine congrArg k0_pay5 ?_
        sl_unfold_run_names
        simp only [View.readAt_eq_ld, Memref.IsWhole.read_unread]
        refine (View.readCov_unit_lit _ _ _ (by decide)).trans (congrArg (k0_pay26 _ _) ?_)
        exact (View.ld_unit_lit _ _ (by decide)).trans (if_neg hc0).symm
    isplitl [HS0]
    · iexists _; isplitr
      swap; · iexact HS0
      ipureintro
      sl_unfold_run_names
      simp only [View.readAt_eq_ld, Memref.IsWhole.read_unread]
      refine (read_store_whole _ _ (by decide) _ _ _).trans (congrArg (k0_pay26 _ _) ?_)
      first
      | have h0 : ¬AtFirst i := hc0
        exact (View.ld_unit_lit _ _ (by decide)).trans (if_neg hc0).symm
      | exact (View.readCov_unit_lit _ _ _ (by decide)).trans (if_pos hc0).symm
    iexists _; isplitr
    swap; · iexact HS1
    ipureintro
    sl_unfold_run_names
    simp only [View.readAt_eq_ld, Memref.IsWhole.read_unread]
    first
    | have h0 : ¬AtFirst i := hc0
      exact read_counts i x n _ (by decide) _ Iff.rfl
        (read_ite _ Iff.rfl (read_store_whole _ _ (by decide) _ _ _) ((harg11.read_unread _).trans (if_neg hc0).symm))
        ((View.ld_unit_lit _ _ (by decide)).trans (if_neg hc0).symm) rfl
    | exact read_counts i x n _ (by decide) _ Iff.rfl
        (read_ite _ Iff.rfl (read_store_whole _ _ (by decide) _ _ _) ((read_store_whole _ _ (by decide) _ _ _).trans (if_pos hc0).symm))
        ((View.readCov_unit_lit _ _ _ (by decide)).trans (if_pos hc0).symm) rfl

end Cert.KernelIdeal.Vq

end
-- ==== Proof.IdealRun.lean ====
module

public import proofs.«01_k».proof.Proof.IdealBody
public import Idealize.ShloMosaic.Lib.Pipeline.TableIdle

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's conditions -/

instance (i : grid0.Coords) : Decidable (AtFirst i) := by unfold AtFirst; infer_instance

/-- The first point is point zero. -/
theorem atFirst_iff : ∀ t : Fin cfg0.N, AtFirst (grid0.coords t) ↔ t.val = 0 := by decide +kernel
/-- The entropies are started at the points whose second coordinate is zero, -/
theorem cond4_iff : ∀ t : Fin cfg0.N, k0_cond4 (grid0.coords t) = 1#1 ↔ t.val % 4 = 0 := by decide +kernel
/-- and added to at the others. -/
theorem cond5_iff : ∀ t : Fin cfg0.N, k0_cond5 (grid0.coords t) = 1#1 ↔ t.val % 4 ≠ 0 := by decide +kernel
/-- The scalar results are stored at the last point. -/
theorem cond6_iff : ∀ t : Fin cfg0.N, k0_cond6 (grid0.coords t) = 1#1 ↔ t.val = 7 := by decide +kernel

/-- The four kinds of grid points. -/
theorem grid_kinds (t : Fin cfg0.N) :
    (AtFirst (grid0.coords t) ∧ k0_cond4 (grid0.coords t) = 1#1 ∧ ¬k0_cond5 (grid0.coords t) = 1#1 ∧ ¬k0_cond6 (grid0.coords t) = 1#1)
      ∨ (¬AtFirst (grid0.coords t) ∧ k0_cond4 (grid0.coords t) = 1#1 ∧ ¬k0_cond5 (grid0.coords t) = 1#1 ∧ ¬k0_cond6 (grid0.coords t) = 1#1)
      ∨ (¬AtFirst (grid0.coords t) ∧ ¬k0_cond4 (grid0.coords t) = 1#1 ∧ k0_cond5 (grid0.coords t) = 1#1 ∧ ¬k0_cond6 (grid0.coords t) = 1#1)
      ∨ (¬AtFirst (grid0.coords t) ∧ ¬k0_cond4 (grid0.coords t) = 1#1 ∧ k0_cond5 (grid0.coords t) = 1#1 ∧ k0_cond6 (grid0.coords t) = 1#1) := by
  have hN : t.val < 8 := lt_of_lt_of_eq t.isLt N_0
  rw [atFirst_iff, cond4_iff, cond5_iff, cond6_iff]
  omega

theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := by decide +kernel
theorem live5 : ∀ t : Fin cfg0.N, t.val = 7 → cfg0.idle 5 (grid0.coords t) = false := by decide +kernel
theorem live6 : ∀ t : Fin cfg0.N, t.val = 7 → cfg0.idle 6 (grid0.coords t) = false := by decide +kernel
theorem live7 : ∀ t : Fin cfg0.N, t.val = 7 → cfg0.idle 7 (grid0.coords t) = false := by decide +kernel
theorem idle5 : ∀ t : Fin cfg0.N, t.val ≠ 7 → cfg0.idle 5 (grid0.coords t) = true ∧ (cfg0.win 5).flush t = false := by decide +kernel
theorem idle6 : ∀ t : Fin cfg0.N, t.val ≠ 7 → cfg0.idle 6 (grid0.coords t) = true ∧ (cfg0.win 6).flush t = false := by decide +kernel
theorem idle7 : ∀ t : Fin cfg0.N, t.val ≠ 7 → cfg0.idle 7 (grid0.coords t) = true ∧ (cfg0.win 7).flush t = false := by decide +kernel

/-- Whether the entropies' buffer holds nothing of the current block yet, position by position. -/
def freshEnt : ℕ → Bool
  | 0 => true
  | n + 1 => n % 4 == 3
theorem freshEnt_step : ∀ t : Fin cfg0.N,
    freshEnt (t.val + 1) = ((cfg0.win 4).flush t || (cfg0.idle 4 (cfg0.grid.coords t) && freshEnt t.val)) := by decide +kernel
theorem fresh4 (t : Fin cfg0.N) : cfg0.fresh 4 t.val = freshEnt t.val :=
  Pipeline.Cfg.fresh_tab cfg0 4 freshEnt rfl freshEnt_step t.val (Nat.le_of_lt t.isLt)

/-! ## The running values, point by point -/

/-- The block of logits at point `t`. -/
abbrev xs (c : Dev nD) (t : Fin cfg0.N) : Vec F S1x288x8192 .f32 := iblk m c 0 t
/-- The row of descending numbers at point `t`. -/
abbrev rs (c : Dev nD) (t : Fin cfg0.N) : Vec F S1x8192 .f32 := iblk m c 1 t

/-- The running entropies after point `n`. -/
def entAt (c : Dev nD) : (n : ℕ) → n < cfg0.N → Vec F S1x1x288 .f32
  | 0, h => entOut (grid0.coords ⟨0, h⟩) (xs m c ⟨0, h⟩) (k0_pay1 (rowEnt (xs m c ⟨0, h⟩)))
  | n + 1, h => entOut (grid0.coords ⟨n + 1, h⟩) (xs m c ⟨n + 1, h⟩) (entAt c n (Nat.lt_of_succ_lt h))

/-- The running sums of probabilities after point `n`. -/
def psumAt (c : Dev nD) : (n : ℕ) → n < cfg0.N → Vec F S8x8192 .f32
  | 0, h => psumOut (grid0.coords ⟨0, h⟩) (xs m c ⟨0, h⟩) k0_pay18
  | n + 1, h => psumOut (grid0.coords ⟨n + 1, h⟩) (xs m c ⟨n + 1, h⟩) (psumAt c n (Nat.lt_of_succ_lt h))

/-- The running counts after point `n`. -/
def countAt (c : Dev nD) : (n : ℕ) → n < cfg0.N → Vec F S1x8192 .f32
  | 0, h => countOut (grid0.coords ⟨0, h⟩) (xs m c ⟨0, h⟩) k0_pay19
  | n + 1, h => countOut (grid0.coords ⟨n + 1, h⟩) (xs m c ⟨n + 1, h⟩) (countAt c n (Nat.lt_of_succ_lt h))

/-- The first point starts the sums of probabilities anew. -/
theorem psumOut_first (i : grid0.Coords) (h : AtFirst i) (x : Vec F S1x288x8192 .f32) (s s' : Vec F S8x8192 .f32) :
    psumOut i x s = psumOut i x s' := by unfold psumOut; rw [if_pos h, if_pos h]

/-- The first point starts the counts anew. -/
theorem countOut_first (i : grid0.Coords) (h : AtFirst i) (x : Vec F S1x288x8192 .f32) (n n' : Vec F S1x8192 .f32) :
    countOut i x n = countOut i x n' := by unfold countOut countSharp; rw [if_pos h, if_pos h]

/-- A point whose second coordinate is zero starts the entropies anew. -/
theorem entOut_first (i : grid0.Coords) (h : k0_cond4 i = 1#1) (x : Vec F S1x288x8192 .f32) (e e' : Vec F S1x1x288 .f32) :
    entOut i x e = entOut i x e' := by unfold entOut; rw [if_pos h, if_pos h]

/-! ## The pipeline's proof data -/

/-- The two running sums between points, as memrefs. -/
abbrev scP : Memref sig .tc .vmem S8x8192 .f32 := Memref.whole cc0_scratch0
abbrev scN : Memref sig .tc .vmem S1x8192 .f32 := Memref.whole cc0_scratch1

/-- The region's own invariant, its two scratch buffers as memrefs held at some contents. -/
theorem scoped_eq (c : Dev nD) :
    (Pipeline.ΦA spec0 c : sProp 𝕄)
      = iprop(iprop((∃ d, owns (c : Thread nD τ) scP fullShare d) ∗ (∃ d, owns (c : Thread nD τ) scN fullShare d)) ∗ (∃ r, prngReg c r)) := by
  unfold Pipeline.ΦA; rw [scopedRest0_eq]; simp only [scP, scN, owns_whole]; try rfl

/-- What is held between points: before the first, the scratch at anything; after point `n`, at the running values. -/
def Held (c : Dev nD) : (n : ℕ) → n ≤ cfg0.N → sProp 𝕄
  | 0, _ => Pipeline.ΦA spec0 c
  | n + 1, hn => iprop(iprop(owns (c : Thread nD τ) scP fullShare (psumAt m c n hn) ∗ owns (c : Thread nD τ) scN fullShare (countAt m c n hn)) ∗ (∃ r, prngReg c r))

/-- The proof data: the inputs stay, each output is left at its function of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => subOut (xs m c t)
    | ⟨3, _⟩ => tgtOut (xs m c t) (rs m c t)
    | ⟨4, _⟩ => entAt m c t.val t.isLt
    | ⟨5, _⟩ => k0_pay4 (countAt m c t.val t.isLt)
    | ⟨6, _⟩ => k0_pay3 (psumAt m c t.val t.isLt)
    | ⟨7, _⟩ => k0_pay5 (psumAt m c t.val t.isLt)
  Φ t := Held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = subOut (xs m c t) := by dsimp only [dats]
theorem after3 (c : Dev nD) (t : Fin cfg0.N) : (dats m 0 c).after 3 t = tgtOut (xs m c t) (rs m c t) := by dsimp only [dats]
theorem after4 (c : Dev nD) (t : Fin cfg0.N) : (dats m 0 c).after 4 t = entAt m c t.val t.isLt := by dsimp only [dats]
theorem after5 (c : Dev nD) (t : Fin cfg0.N) : (dats m 0 c).after 5 t = k0_pay4 (countAt m c t.val t.isLt) := by dsimp only [dats]
theorem after6 (c : Dev nD) (t : Fin cfg0.N) : (dats m 0 c).after 6 t = k0_pay3 (psumAt m c t.val t.isLt) := by dsimp only [dats]
theorem after7 (c : Dev nD) (t : Fin cfg0.N) : (dats m 0 c).after 7 t = k0_pay5 (psumAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At any point, updating whatever the entropies' buffer holds gives the running entropies after the point: the buffer
    holds the point before's unless the point starts anew. -/
theorem ent_step (c : Dev nD) (t : Fin cfg0.N) (d) :
    entOut (grid0.coords t) (xs m c t) ((dats m 0 c).before 4 t d) = entAt m c t.val t.isLt := by
  obtain ⟨n, hn⟩ := t
  by_cases h4 : n % 4 = 0
  · cases n with
    | zero => exact entOut_first _ ((cond4_iff ⟨0, hn⟩).mpr h4) _ _ _
    | succ n => exact entOut_first _ ((cond4_iff ⟨n + 1, hn⟩).mpr h4) _ _ _
  · cases n with
    | zero => exact absurd rfl h4
    | succ n =>
      have hf : cfg0.fresh 4 (n + 1) = false := by
        rw [fresh4 ⟨n + 1, hn⟩]
        have : n % 4 ≠ 3 := by omega
        simp [freshEnt, this]
      rw [Dat.before_out_traj _ 4 rfl (fun _ _ => rfl) (fun t _ hi _ => by rw [live4 t] at hi; exact absurd hi Bool.false_ne_true) (n + 1) ⟨n + 1, hn⟩ rfl d,
        if_neg (by rw [hf]; exact Bool.false_ne_true), after4]
      rfl

/-- A scalar result's buffer after the body is what the proof data leaves there: the value at the last point, else what
    was there. -/
theorem leaves5 (c : Dev nD) (t : Fin cfg0.N) (d) :
    owns (c : Thread nD τ) ((cfg0.win 5).stage (cfg0.slots t 5)) fullShare (lastOut (grid0.coords t) (k0_pay4 (countAt m c t.val t.isLt)) ((dats m 0 c).before 5 t d)) ⊢ (dats m 0 c).leavesExact 5 t := by
  by_cases h : t.val = 7
  · unfold Dat.leavesExact lastOut; rw [live5 t h, if_pos ((cond6_iff t).mpr h), after5]
  · unfold lastOut; rw [Dat.leavesExact_idle (dats m 0 c) 5 t (idle5 t h).1 (idle5 t h).2, if_neg (fun h6 => h ((cond6_iff t).mp h6))]
    iintro H; iexists _; iexact H
theorem leaves6 (c : Dev nD) (t : Fin cfg0.N) (d) :
    owns (c : Thread nD τ) ((cfg0.win 6).stage (cfg0.slots t 6)) fullShare (lastOut (grid0.coords t) (k0_pay3 (psumAt m c t.val t.isLt)) ((dats m 0 c).before 6 t d)) ⊢ (dats m 0 c).leavesExact 6 t := by
  by_cases h : t.val = 7
  · unfold Dat.leavesExact lastOut; rw [live6 t h, if_pos ((cond6_iff t).mpr h), after6]
  · unfold lastOut; rw [Dat.leavesExact_idle (dats m 0 c) 6 t (idle6 t h).1 (idle6 t h).2, if_neg (fun h6 => h ((cond6_iff t).mp h6))]
    iintro H; iexists _; iexact H
theorem leaves7 (c : Dev nD) (t : Fin cfg0.N) (d) :
    owns (c : Thread nD τ) ((cfg0.win 7).stage (cfg0.slots t 7)) fullShare (lastOut (grid0.coords t) (k0_pay5 (psumAt m c t.val t.isLt)) ((dats m 0 c).before 7 t d)) ⊢ (dats m 0 c).leavesExact 7 t := by
  by_cases h : t.val = 7
  · unfold Dat.leavesExact lastOut; rw [live7 t h, if_pos ((cond6_iff t).mpr h), after7]
  · unfold lastOut; rw [Dat.leavesExact_idle (dats m 0 c) 7 t (idle7 t h).1 (idle7 t h).2, if_neg (fun h6 => h ((cond6_iff t).mp h6))]
    iintro H; iexists _; iexact H

/-- What is held before a point is the scratch at contents whose update is the running value after it. -/
theorem held_in (c : Dev nD) (t : Fin cfg0.N) :
    Held m c t.val (Nat.le_of_lt t.isLt) ⊢ iprop(∃ s n, ⌜psumOut (grid0.coords t) (xs m c t) s = psumAt m c t.val t.isLt
        ∧ countOut (grid0.coords t) (xs m c t) n = countAt m c t.val t.isLt⌝
      ∗ owns (c : Thread nD τ) scP fullShare s ∗ owns (c : Thread nD τ) scN fullShare n ∗ (∃ r, prngReg c r)) := by
  obtain ⟨n, hn⟩ := t
  cases n with
  | zero =>
    rw [show Held m c 0 (Nat.zero_le _) = Pipeline.ΦA spec0 c from rfl, scoped_eq]
    iintro ⟨⟨⟨%s, HS0⟩, ⟨%n, HS1⟩⟩, Hg⟩
    iexists s; iexists n
    isplitr
    · ipureintro
      exact ⟨psumOut_first _ ((atFirst_iff ⟨0, hn⟩).mpr rfl) _ _ _, countOut_first _ ((atFirst_iff ⟨0, hn⟩).mpr rfl) _ _ _⟩
    isplitl [HS0]; · iexact HS0
    isplitl [HS1]; · iexact HS1
    iexact Hg
  | succ n =>
    unfold Held
    iintro ⟨⟨HS0, HS1⟩, Hg⟩
    iexists _; iexists _
    isplitr
    swap
    · isplitl [HS0]; · iexact HS0
      isplitl [HS1]; · iexact HS1
      iexact Hg
    ipureintro
    exact ⟨rfl, rfl⟩

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 4000000 in
/-- The body at any point takes `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.castSucc = Held m c t.val (Nat.le_of_lt t.isLt) from by dsimp only [dats]; exact Pipeline.Dat.Φ_castSucc (Held m c) t]
  rw [show (dats m 0 c).Φ t.succ = iprop(iprop(owns (c : Thread nD τ) scP fullShare (psumAt m c t.val t.isLt) ∗ owns (c : Thread nD τ) scN fullShare (countAt m c t.val t.isLt)) ∗ (∃ r, prngReg c r)) from rfl]
  rw [show (dats m 0 c).leavesExact 0 t = owns (c : Thread nD τ) ((cfg0.win 0).stage (cfg0.slots t 0)) fullShare (iblk m c 0 t) from by
    unfold Dat.leavesExact; rw [show cfg0.idle 0 (grid0.coords t) = false from rfl, after0]]
  rw [show (dats m 0 c).leavesExact 1 t = owns (c : Thread nD τ) ((cfg0.win 1).stage (cfg0.slots t 1)) fullShare (iblk m c 1 t) from by
    unfold Dat.leavesExact; rw [show cfg0.idle 1 (grid0.coords t) = false from rfl, after1]]
  rw [show (dats m 0 c).leavesExact 2 t = owns (c : Thread nD τ) ((cfg0.win 2).stage (cfg0.slots t 2)) fullShare (subOut (xs m c t)) from by
    unfold Dat.leavesExact; rw [live2 t, after2]]
  rw [show (dats m 0 c).leavesExact 3 t = owns (c : Thread nD τ) ((cfg0.win 3).stage (cfg0.slots t 3)) fullShare (tgtOut (xs m c t) (rs m c t)) from by
    unfold Dat.leavesExact; rw [live3 t, after3]]
  rw [show (dats m 0 c).leavesExact 4 t = owns (c : Thread nD τ) ((cfg0.win 4).stage (cfg0.slots t 4)) fullShare (entAt m c t.val t.isLt) from by
    unfold Dat.leavesExact; rw [live4 t, after4]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := held_in m c t $$ HΦ
  icases HΦ' with ⟨%s, %n, %hsn, HS0, HS1, Hg⟩
  iapply (body_run c (grid0.coords t) _ _ _ _ _ _ _ _ _ _ _ _ _ _ _ _ _ _ _ _ (grid_kinds t) (xs m c t) (rs m c t)
    ((dats m 0 c).before 4 t d4) ((dats m 0 c).before 5 t d5) ((dats m 0 c).before 6 t d6) ((dats m 0 c).before 7 t d7) s n Set.univ _)
  isplitl [H0]; · iexact H0
  isplitl [H1]; · iexact H1
  isplitl [H2]; · iexists _; iexact H2
  isplitl [H3]; · iexists _; iexact H3
  isplitl [H4]; · iexact H4
  isplitl [H5]; · iexact H5
  isplitl [H6]; · iexact H6
  isplitl [H7]; · iexact H7
  isplitl [HS0]; · iexact HS0
  isplitl [HS1]; · iexact HS1
  rw [ent_step m c t d4, hsn.1, hsn.2]
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · ihave H := leaves5 m c t d5 $$ H5
    iexact H
  isplitl [H6]
  · ihave H := leaves6 m c t d6 $$ H6
    iexact H
  ihave H := leaves7 m c t d7 $$ H7
  iexact H

theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- What is held after the last point gives the scratch back. -/
theorem hout (c : Dev nD) : (dats m 0 c).Φ (Fin.last cfg0.N) ⊢ Pipeline.ΦA spec0 c := by
  rw [show (dats m 0 c).Φ (Fin.last cfg0.N) = Held m c (7 + 1) (Nat.le_of_eq N_0.symm) from rfl, scoped_eq]
  unfold Held
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- The launch: every execution ends with the pipeline's arrays at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: every execution ends with the argument as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_quiescent m ρ))

end Cert.KernelIdeal.Vq

end
-- ==== Proof.RowMath.lean ====
module

public import Idealize.ShloMosaic.PureOps.Ideal
public import Idealize.ShloMosaic.PureOps.Ideal.Laws
public import Idealize.ShloMosaic.Lib.IdealHost

@[expose] public section

noncomputable section

namespace Cert.Row

open Idealize.ShloMosaic

/-! The mathematics of one row of logits over the extended reals, apart from any program: the greatest element, the
exponentials against it, their sum, the softmax, its entropy, the first index of the greatest element. A masked column is
`-∞`. -/

variable {n : ℕ}

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- No element is `+∞`, and some element is not `-∞`. -/
def Good (y : Fin n → EReal) : Prop := (∀ i, y i ≠ ⊤) ∧ ∃ i, y i ≠ ⊥

/-- The greatest element. -/
def top (y : Fin n → EReal) : EReal := Finset.univ.fold max ⊥ y

/-- The exponential of an element less the greatest. -/
def ex (y : Fin n → EReal) (i : Fin n) : EReal := Ideal.exp (y i - top y)

/-- The sum of the exponentials. -/
def total (y : Fin n → EReal) : EReal := ∑ i, ex y i

/-- The softmax. -/
def prob (y : Fin n → EReal) (i : Fin n) : EReal := Ideal.div (ex y i) (total y)

/-- The entropy of the softmax, an element of probability zero adding nothing. -/
def entropy (y : Fin n → EReal) : EReal := -∑ i, if 0 < prob y i then prob y i * Ideal.log (prob y i) else 0

/-- No element exceeds the greatest. -/
theorem le_top (y : Fin n → EReal) (i : Fin n) : y i ≤ top y := by
  have h : top y = Finset.univ.sup y := rfl
  rw [h]; exact Finset.le_sup (Finset.mem_univ i)

/-- A bound of the elements bounds the greatest. -/
theorem top_le (y : Fin n → EReal) (b : EReal) (h : ∀ i, y i ≤ b) : top y ≤ b := by
  have h' : top y = Finset.univ.sup y := rfl
  rw [h']; exact Finset.sup_le fun i _ => h i

/-- The greatest element is an element. -/
theorem exists_top (y : Fin n → EReal) (i₀ : Fin n) : ∃ i, y i = top y := by
  have h : top y = Finset.univ.sup y := rfl
  obtain ⟨i, -, hi⟩ := Finset.exists_mem_eq_sup (Finset.univ : Finset (Fin n)) ⟨i₀, Finset.mem_univ _⟩ y
  exact ⟨i, by rw [h, hi]⟩

/-- The exponential of a real number, -/
theorem exp_coe (r : ℝ) : Ideal.exp (r : EReal) = (Real.exp r : EReal) := rfl
/-- and of `-∞`. -/
theorem exp_bot : Ideal.exp ⊥ = 0 := rfl
/-- The logarithm of a positive real number. -/
theorem log_coe {r : ℝ} (h : 0 < r) : Ideal.log (r : EReal) = (Real.log r : EReal) := by
  show (if r ≤ 0 then (⊥ : EReal) else (Real.log r : EReal)) = _
  rw [if_neg (not_le.mpr h)]

/-- A good row in reals: its greatest element is a real `M`, attained; its exponentials are reals in `[0, 1]`, one exactly
    where the element is the greatest; an element is `-∞` with exponential zero or a real with that of its difference. -/
theorem real_row {y : Fin n → EReal} (h : Good y) : ∃ (M : ℝ) (e : Fin n → ℝ), top y = M ∧ (∀ i, ex y i = (e i : EReal))
    ∧ (∀ i, 0 ≤ e i ∧ e i ≤ 1) ∧ (∀ i, e i = 1 ↔ y i = top y) ∧ (∃ i, y i = top y)
    ∧ ∀ i, (y i = ⊥ ∧ e i = 0) ∨ ∃ r : ℝ, y i = r ∧ e i = Real.exp (r - M) := by
  obtain ⟨hT, i₀, hi₀⟩ := h
  obtain ⟨i₁, hi₁⟩ := exists_top y i₀
  have htop : top y ≠ ⊤ := by rw [← hi₁]; exact hT i₁
  have hbot : top y ≠ ⊥ := fun hb => hi₀ (le_bot_iff.mp (hb ▸ le_top y i₀))
  obtain ⟨M, hM⟩ : ∃ M : ℝ, top y = M := ⟨(top y).toReal, (EReal.coe_toReal htop hbot).symm⟩
  have key : ∀ i, ∃ e : ℝ, ex y i = (e : EReal) ∧ (0 ≤ e ∧ e ≤ 1) ∧ (e = 1 ↔ y i = top y)
      ∧ ((y i = ⊥ ∧ e = 0) ∨ ∃ r : ℝ, y i = r ∧ e = Real.exp (r - M)) := by
    intro i
    by_cases hb : y i = ⊥
    · refine ⟨0, ?_, ⟨le_rfl, zero_le_one⟩, ?_, .inl ⟨hb, rfl⟩⟩
      · unfold ex; rw [hb, hM, EReal.bot_sub, exp_bot]; rfl
      · rw [hb]; constructor
        · intro h; exact absurd h zero_ne_one
        · intro h; exact absurd h.symm hbot
    · obtain ⟨r, hr⟩ : ∃ r : ℝ, y i = r := ⟨(y i).toReal, (EReal.coe_toReal (hT i) hb).symm⟩
      have hle : r ≤ M := by
        have := le_top y i
        rw [hr, hM] at this
        exact EReal.coe_le_coe_iff.mp this
      refine ⟨Real.exp (r - M), ?_, ⟨(Real.exp_pos _).le, ?_⟩, ?_, .inr ⟨r, hr, rfl⟩⟩
      · unfold ex; rw [hr, hM, ← EReal.coe_sub, exp_coe]
      · rw [Real.exp_le_one_iff]; linarith
      · rw [Real.exp_eq_one_iff, hr, hM, EReal.coe_eq_coe_iff]; constructor <;> intro h <;> linarith
  choose e h1 h2 h3 h4 using key
  exact ⟨M, e, hM, h1, h2, h3, ⟨i₁, hi₁⟩, h4⟩

/-- The exponentials of a good row add up to a real, at least one. -/
theorem total_real {y : Fin n → EReal} (h : Good y) : ∃ Z : ℝ, total y = Z ∧ 1 ≤ Z := by
  obtain ⟨M, e, -, he, h01, h1, ⟨i, hi⟩, -⟩ := real_row h
  refine ⟨∑ i, e i, ?_, ?_⟩
  · unfold total; rw [coe_sum]; exact Finset.sum_congr rfl fun i _ => he i
  · rw [← (h1 i).mpr hi]
    exact Finset.single_le_sum (fun j _ => (h01 j).1) (Finset.mem_univ i)

/-- The floor of the exponential is one where the element is the greatest, else zero. -/
theorem floor_ex {y : Fin n → EReal} (h : Good y) (i : Fin n) :
    Ideal.liftRound Int.floor (ex y i) = if y i = top y then 1 else 0 := by
  obtain ⟨M, e, -, he, h01, h1, -, -⟩ := real_row h
  rw [he i]
  show ((⌊e i⌋ : ℝ) : EReal) = _
  by_cases hi : y i = top y
  · rw [if_pos hi, (h1 i).mpr hi]; simp
  · rw [if_neg hi]
    have hlt : e i < 1 := lt_of_le_of_ne (h01 i).2 fun hh => hi ((h1 i).mp hh)
    rw [show ⌊e i⌋ = 0 from Int.floor_eq_zero_iff.mpr ⟨(h01 i).1, hlt⟩]; simp

/-- The softmax of a good row is a real, in terms of the real exponentials and sum. -/
theorem prob_eq {y : Fin n → EReal} (h : Good y) (i : Fin n) : prob y i = ex y i * Ideal.div 1 (total y) := by
  obtain ⟨Z, hZ, hZ1⟩ := total_real h
  unfold prob; rw [Ideal.mul_one_div]
  rw [hZ]; intro h0
  have : Z = 0 := by exact_mod_cast h0
  linarith

/-- The softmax of a good row is a real. -/
theorem prob_real {y : Fin n → EReal} (h : Good y) (i : Fin n) : ∃ p : ℝ, prob y i = p := by
  obtain ⟨Z, hZ, hZ1⟩ := total_real h
  obtain ⟨M, e, -, he, -⟩ := real_row h
  refine ⟨e i * (1 / Z), ?_⟩
  unfold prob
  rw [hZ, Ideal.div_coe (by linarith), he, EReal.coe_mul]

/-- The entropy of a good row is the logarithm of the sum, less the mean of the elements' differences from the greatest
    under the exponentials; both are one real. -/
theorem entropy_eq {y : Fin n → EReal} (h : Good y) : ∃ H : ℝ, entropy y = H
    ∧ Ideal.log (total y) - ((∑ i, ex y i * y i) - top y * total y) * Ideal.div 1 (total y) = H := by
  obtain ⟨Z, hZ, hZ1⟩ := total_real h
  obtain ⟨M, e, hM, he, h01, h1, -, hy⟩ := real_row h
  have hZ0 : (0 : ℝ) < Z := by linarith
  have hZs : Z = ∑ i, e i := by
    have : total y = ((∑ i, e i : ℝ) : EReal) := by
      unfold total; rw [coe_sum]; exact Finset.sum_congr rfl fun i _ => he i
    rw [hZ] at this; exact_mod_cast this
  obtain ⟨r, hr⟩ : ∃ r : Fin n → ℝ, ∀ i, (y i = ⊥ ∧ e i = 0) ∨ (y i = r i ∧ e i = Real.exp (r i - M)) := by
    have : ∀ i, ∃ r : ℝ, (y i = ⊥ ∧ e i = 0) ∨ (y i = r ∧ e i = Real.exp (r - M)) := fun i => by
      rcases hy i with h | ⟨r, h⟩
      · exact ⟨0, .inl h⟩
      · exact ⟨r, .inr h⟩
    choose r hr using this
    exact ⟨r, hr⟩
  have hmul : ∀ i, ex y i * y i = ((e i * r i : ℝ) : EReal) := fun i => by
    rcases hr i with ⟨hb, h0⟩ | ⟨hb, h0⟩
    · rw [he i, h0, hb]; simp
    · rw [he i, hb, EReal.coe_mul]
  have hterm : ∀ i, (if 0 < prob y i then prob y i * Ideal.log (prob y i) else 0)
      = ((e i * (1 / Z) * (r i - M - Real.log Z) : ℝ) : EReal) := fun i => by
    have hp : prob y i = ((e i * (1 / Z) : ℝ) : EReal) := by
      unfold prob; rw [hZ, Ideal.div_coe (by linarith), he, EReal.coe_mul]
    rcases hr i with ⟨hb, h0⟩ | ⟨hb, h0⟩
    · rw [hp, h0]; simp
    · have hpos : 0 < e i * (1 / Z) := by rw [h0]; positivity
      rw [if_pos (by rw [hp]; exact_mod_cast hpos), hp, log_coe hpos, ← EReal.coe_mul, h0, Real.log_mul (Real.exp_pos _).ne' (by positivity),
        Real.log_exp, one_div, Real.log_inv]
      rfl
  refine ⟨-∑ i, e i * (1 / Z) * (r i - M - Real.log Z), ?_, ?_⟩
  · unfold entropy
    rw [EReal.coe_neg, coe_sum]
    exact congrArg (fun s => -s) (Finset.sum_congr rfl fun i _ => hterm i)
  · rw [Finset.sum_congr rfl fun i _ => hmul i, ← coe_sum, hZ, hM, log_coe hZ0, Ideal.div_coe hZ0.ne', one_mul,
      ← EReal.coe_mul, ← EReal.coe_sub, ← EReal.coe_mul, ← EReal.coe_sub]
    refine congrArg _ ?_
    have : ∑ i, e i * (1 / Z) * (r i - M - Real.log Z)
        = (1 / Z) * (∑ i, e i * r i) - (1 / Z) * (M + Real.log Z) * ∑ i, e i := by
      rw [Finset.mul_sum, Finset.mul_sum, ← Finset.sum_sub_distrib]
      exact Finset.sum_congr rfl fun i _ => by ring
    rw [this, ← hZs]; field_simp; ring

/-- Adding a real and taking it away changes nothing. -/
theorem add_sub_real (a : EReal) {s : EReal} (h : ∃ p : ℝ, s = p) : a + s - s = a := by
  obtain ⟨p, rfl⟩ := h
  exact EReal.add_sub_cancel_right

/-- `k` is the first index of the greatest element. -/
def IsFirst (y : Fin n → EReal) (k : Fin n) : Prop := y k = top y ∧ ∀ i, y i = top y → k ≤ i

/-- There is one first column of greatest element at most, -/
theorem IsFirst.unique {y : Fin n → EReal} {k k' : Fin n} (h : IsFirst y k) (h' : IsFirst y k') : k = k' :=
  le_antisymm (h.2 _ h'.1) (h'.2 _ h.1)

/-- and one at least. -/
theorem exists_first (y : Fin n → EReal) (i₀ : Fin n) : ∃ k, IsFirst y k := by
  classical
  obtain ⟨i, hi⟩ := exists_top y i₀
  obtain ⟨k, hk, hmin⟩ := Finset.exists_min_image (Finset.univ.filter fun i => y i = top y) id ⟨i, by simp [hi]⟩
  exact ⟨k, (Finset.mem_filter.mp hk).2, fun j hj => hmin j (by simp [hj])⟩

/-- The first index of the greatest element. -/
def first [NeZero n] (y : Fin n → EReal) : Fin n := (exists_first y 0).choose

/-- The chosen one is it. -/
theorem first_spec [NeZero n] (y : Fin n → EReal) : IsFirst y (first y) := (exists_first y 0).choose_spec

/-- One at the first index of the greatest element, zero elsewhere. -/
def oneHot [NeZero n] (y : Fin n → EReal) (i : Fin n) : EReal := if i = first y then 1 else 0

end Cert.Row

end
-- ==== Proof.Words.lean ====
module

public import proofs.«01_k».proof.Proof.RowMath

@[expose] public section

noncomputable section

namespace Cert.Row

open Idealize.ShloMosaic

/-! Words, constants, counts and searches: the parts of the row mathematics that go through machine words. -/

variable {n : ℕ}

/-! ## The constants -/

/-- The constants' values. -/
theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_8192 : Ideal.ofBits .f32 0x46000000#32 = ((8192 : ℝ) : EReal) := by
  simp [Ideal.ofBits, Ideal.ieee, -EReal.coe_mul]; norm_num
theorem bits_288 : Ideal.ofBits .f32 0x43900000#32 = ((288 : ℝ) : EReal) := by
  simp [Ideal.ofBits, Ideal.ieee, -EReal.coe_mul]; norm_num
theorem bits_inv_8192 : Ideal.ofBits .f32 0x39000000#32 = ((1 / 8192 : ℝ) : EReal) := by
  simp [Ideal.ofBits, Ideal.ieee, -EReal.coe_mul]; norm_num
theorem bits_quarter : Ideal.ofBits .f32 0x3E800000#32 = ((1 / 4 : ℝ) : EReal) := by
  simp [Ideal.ofBits, Ideal.ieee, -EReal.coe_mul]; norm_num
theorem bits_2304 : Ideal.ofBits .f32 0x45100000#32 = ((2304 : ℝ) : EReal) := by
  simp [Ideal.ofBits, Ideal.ieee, -EReal.coe_mul]; norm_num
theorem bits_4 : Ideal.ofBits .f32 0x40800000#32 = ((4 : ℝ) : EReal) := by
  simp [Ideal.ofBits, Ideal.ieee, -EReal.coe_mul]; norm_num
theorem bits_temp : ∃ r : ℝ, 0 < r ∧ Ideal.ofBits .f32 0x3DCCCCCD#32 = (r : EReal) := by
  refine ⟨13421773 * 2 ^ (-27 : ℤ), by positivity, ?_⟩
  simp [Ideal.ofBits, Ideal.ieee, -EReal.coe_mul]

/-! ## Column numbers as words -/

/-- Small numbers are equal when their words are. -/
theorem ofNat_inj {j k : ℕ} (hj : j < 2 ^ 31) (hk : k < 2 ^ 31) : BitVec.ofNat 32 j = BitVec.ofNat 32 k ↔ j = k := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- A small number is read back from its word. -/
theorem toInt_ofNat {j : ℕ} (hj : j < 2 ^ 31) : (BitVec.ofNat 32 j).toInt = j := by
  rw [BitVec.toInt_eq_toNat_of_lt (by rw [BitVec.toNat_ofNat, Nat.mod_eq_of_lt (by omega)]; omega), BitVec.toNat_ofNat, Nat.mod_eq_of_lt (by omega)]

/-- Whether two column numbers are equal, as a bit. -/
theorem cmpi_col {j k : ℕ} (hj : j < 2 ^ 31) (hk : k < 2 ^ 31) :
    IntOp.cmpi CmpIPredicate.eq (BitVec.ofNat 32 j) (BitVec.ofNat 32 k) = BitVec.ofBool (decide (j = k)) := by
  show BitVec.ofBool (BitVec.ofNat 32 j == BitVec.ofNat 32 k) = _
  by_cases h : j = k
  · subst h; simp
  · rw [decide_eq_false h, beq_false_of_ne fun hh => h ((ofNat_inj hj hk).mp hh)]

/-- The word of a real that is a small natural number. -/
theorem fptosi_nat {k : ℕ} (hk : k < 2 ^ 31) : Ideal.fptosi 32 (((k : ℝ) : ℝ) : EReal) = BitVec.ofNat 32 k := by
  have h : Ideal.toIntClamped (-(2 ^ (32 - 1) : Nat)) ((2 ^ (32 - 1) : Nat) - 1) (((k : ℝ) : ℝ) : EReal) = (k : ℤ) := by
    show max _ (min _ (if 0 ≤ (k : ℝ) then ⌊(k : ℝ)⌋ else ⌈(k : ℝ)⌉)) = _
    rw [if_pos (Nat.cast_nonneg k), Int.floor_natCast]
    norm_num
    omega
  unfold Ideal.fptosi
  rw [h, BitVec.ofInt_natCast]

/-! ## Counting the greatest elements of several rows -/

/-- An indicator as a real number. -/
theorem one_if (P : Prop) [Decidable P] : (if P then (1 : EReal) else 0) = ((if P then (1 : ℝ) else 0 : ℝ) : EReal) := by
  split_ifs <;> rfl

/-- The greatest elements of `R` rows are `R` in number exactly when each row has only one. -/
theorem count_iff [NeZero n] {R : ℕ} (y : Fin R → Fin n → EReal) :
    (∑ j, ∑ r, if y r j = top (y r) then (1 : EReal) else 0) = ((R : ℝ) : EReal) ↔ ∀ r j, y r j = top (y r) → j = first (y r) := by
  classical
  have hsum : (∑ j, ∑ r, if y r j = top (y r) then (1 : EReal) else 0)
      = (((∑ r, (Finset.univ.filter fun j => y r j = top (y r)).card : ℕ) : ℝ) : EReal) := by
    rw [Finset.sum_comm, Nat.cast_sum, coe_sum]
    refine Finset.sum_congr rfl fun r _ => ?_
    rw [← Finset.sum_boole, coe_sum]
    exact Finset.sum_congr rfl fun j _ => one_if _
  rw [hsum, EReal.coe_eq_coe_iff, Nat.cast_inj]
  have h1 : ∀ r ∈ (Finset.univ : Finset (Fin R)), 1 ≤ (Finset.univ.filter fun j => y r j = top (y r)).card := fun r _ =>
    Finset.card_pos.mpr ⟨first (y r), by simp [(first_spec (y r)).1]⟩
  have h2 := Finset.sum_eq_sum_iff_of_le h1
  rw [Finset.sum_const, Finset.card_univ, Fintype.card_fin, smul_eq_mul, mul_one] at h2
  rw [eq_comm, h2]
  constructor
  · intro h r j hj
    have := (h r (Finset.mem_univ r)).symm
    exact (Finset.card_le_one.mp (le_of_eq this)) j (by simp [hj]) _ (by simp [(first_spec (y r)).1])
  · intro h r _
    refine le_antisymm (h1 r (Finset.mem_univ r)) (Finset.card_le_one.mpr fun a ha b hb => ?_)
    rw [h r a (Finset.mem_filter.mp ha).2, h r b (Finset.mem_filter.mp hb).2]

/-! ## The first index by a minimum of indices -/

/-- A minimum of words is one of them, and least. -/
theorem fold_min_spec {ι : Type} [DecidableEq ι] (a : BitVec 32) (f : ι → BitVec 32) (s : Finset ι) :
    ((s.fold IntOp.minsi a f) = a ∨ ∃ i ∈ s, s.fold IntOp.minsi a f = f i)
      ∧ ∀ i ∈ s, (s.fold IntOp.minsi a f).toInt ≤ (f i).toInt := by
  induction s using Finset.induction_on with
  | empty => simp
  | insert b s hb ih =>
    rw [Finset.fold_insert hb]
    obtain ⟨h1, h2⟩ := ih
    generalize s.fold IntOp.minsi a f = v at h1 h2
    unfold IntOp.minsi
    by_cases h : (f b).slt v
    · rw [if_pos h]
      have h' := BitVec.slt_iff_toInt_lt.mp h
      refine ⟨.inr ⟨b, Finset.mem_insert_self b s, rfl⟩, fun i hi => ?_⟩
      rcases Finset.mem_insert.mp hi with rfl | hi
      · exact le_rfl
      · exact le_trans (le_of_lt h') (h2 i hi)
    · rw [if_neg h]
      have h' : ¬(f b).toInt < v.toInt := fun hh => h (BitVec.slt_iff_toInt_lt.mpr hh)
      refine ⟨h1.imp_right fun ⟨i, hi, he⟩ => ⟨i, Finset.mem_insert_of_mem hi, he⟩, fun i hi => ?_⟩
      rcases Finset.mem_insert.mp hi with rfl | hi
      · omega
      · exact h2 i hi

/-- The least of the indices of the greatest elements is the first index. -/
theorem fold_min_first [NeZero n] (hn : n ≤ 8192) (y : Fin n → EReal) :
    Finset.univ.fold IntOp.minsi 2147483647#32 (fun j : Fin n => if y j = top y then BitVec.ofNat 32 j.val else 8192#32)
      = BitVec.ofNat 32 (first y).val := by
  obtain ⟨h1, h2⟩ := fold_min_spec 2147483647#32 (fun j : Fin n => if y j = top y then BitVec.ofNat 32 j.val else 8192#32) Finset.univ
  obtain ⟨hk, hmin⟩ := first_spec y
  have hlt := (first y).isLt
  have hb := h2 (first y) (Finset.mem_univ _)
  rw [if_pos hk, toInt_ofNat (by omega)] at hb
  rcases h1 with h1 | ⟨j, -, h1⟩
  · rw [h1] at hb
    have : (2147483647#32 : BitVec 32).toInt = 2147483647 := by decide
    omega
  · rw [h1] at hb ⊢
    by_cases hj : y j = top y
    · rw [if_pos hj] at hb ⊢
      have hjl := j.isLt
      rw [toInt_ofNat (by omega)] at hb
      have := Fin.le_def.mp (hmin j hj)
      congr 1; omega
    · rw [if_neg hj] at hb
      have : (8192#32 : BitVec 32).toInt = 8192 := by decide
      omega

/-! ## The first index by folding pairs -/

/-- Of two pairs of a value and an index, the one of greater value; of equal values, the one of lesser index. -/
def pick (a b : EReal × BitVec 32) : EReal × BitVec 32 :=
  (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2)

/-- `p` is no worse than `q`: of greater value, or of the same value and no greater index. -/
def NoWorse (p q : EReal × BitVec 32) : Prop := q.1 < p.1 ∨ (q.1 = p.1 ∧ p.2.toInt ≤ q.2.toInt)

/-- A pair is no worse than itself, -/
theorem NoWorse.refl (p : EReal × BitVec 32) : NoWorse p p := .inr ⟨rfl, le_rfl⟩

/-- and what is no worse than a pair is no worse than what that pair is no worse than. -/
theorem NoWorse.trans {p q r : EReal × BitVec 32} (h : NoWorse p q) (h' : NoWorse q r) : NoWorse p r := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- The picked pair is one of the two, and no worse than either. -/
theorem pick_spec (a b : EReal × BitVec 32) : (pick a b = a ∨ pick a b = b) ∧ NoWorse (pick a b) a ∧ NoWorse (pick a b) b := by
  obtain ⟨v, i⟩ := a
  obtain ⟨w, k⟩ := b
  by_cases h1 : w < v
  · have : pick (v, i) (w, k) = (v, i) := by
      have h0 : ∀ b : BitVec 1, 1#1 ||| b = 1#1 := by decide
      simp [pick, Ideal.cmp, h1, IntOp.ori, Scalar.select, h0]
    rw [this]
    exact ⟨.inl rfl, .refl _, .inl h1⟩
  · by_cases h2 : v = w ∧ i.slt k
    · obtain ⟨rfl, h2⟩ := h2
      have : pick (v, i) (v, k) = (v, i) := by simp [pick, Ideal.cmp, h2, IntOp.ori, IntOp.andi, IntOp.cmpi, Scalar.select]
      rw [this]
      exact ⟨.inl rfl, .refl _, .inr ⟨rfl, le_of_lt (BitVec.slt_iff_toInt_lt.mp h2)⟩⟩
    · have h3 : (decide (v = w) && i.slt k) = false := by
        by_cases hv : v = w
        · have : ¬(i.slt k = true) := fun hh => h2 ⟨hv, hh⟩
          simp [hv, Bool.eq_false_iff.mpr this]
        · simp [hv]
      have : pick (v, i) (w, k) = (w, k) := by
        have h4 : IntOp.andi (Ideal.cmp .oeq v w) (IntOp.cmpi .slt i k) = 0#1 := by
          show BitVec.ofBool (decide (v = w)) &&& BitVec.ofBool (i.slt k) = 0#1
          rw [BitVec.ofBool_and_ofBool, h3]; rfl
        unfold pick
        rw [h4]
        simp [Ideal.cmp, h1, IntOp.ori, Scalar.select]
      rw [this]
      refine ⟨.inr rfl, ?_, .refl _⟩
      rcases lt_or_eq_of_le (not_lt.mp h1) with h | h
      · exact .inl h
      · refine .inr ⟨h, ?_⟩
        by_contra hlt
        exact h2 ⟨h, BitVec.slt_iff_toInt_lt.mpr (not_le.mp hlt)⟩

/-- Picking through a list leaves one of its pairs, no worse than any. -/
theorem foldl_pick_spec (L : List (EReal × BitVec 32)) (a : EReal × BitVec 32) :
    L.foldl pick a ∈ a :: L ∧ ∀ p ∈ a :: L, NoWorse (L.foldl pick a) p := by
  induction L generalizing a with
  | nil => exact ⟨List.mem_singleton.mpr rfl, fun p hp => by rw [List.mem_singleton.mp hp]; exact .refl _⟩
  | cons b L ih =>
    obtain ⟨h1, h2⟩ := ih (pick a b)
    obtain ⟨p1, p2, p3⟩ := pick_spec a b
    rw [List.foldl_cons]
    have hself := h2 (pick a b) (List.mem_cons_self ..)
    refine ⟨?_, fun p hp => ?_⟩
    · rcases List.mem_cons.mp h1 with h | h
      · rw [h]; rcases p1 with p1 | p1 <;> rw [p1] <;> simp
      · exact List.mem_cons_of_mem _ (List.mem_cons_of_mem _ h)
    · rcases List.mem_cons.mp hp with rfl | hp
      · exact hself.trans p2
      · rcases List.mem_cons.mp hp with rfl | hp
        · exact hself.trans p3
        · exact h2 p (List.mem_cons_of_mem _ hp)

/-- Folding the pairs of a good row's elements and their indices, in any order and from `-∞` at zero, gives the first index
    of the greatest element. -/
theorem foldl_pick_first [NeZero n] (hn : n ≤ 8192) (y : Fin n → EReal) (h : ∃ i, y i ≠ ⊥) (L : List (EReal × BitVec 32))
    (hL : ∀ p ∈ L, ∃ j : Fin n, p = (y j, BitVec.ofNat 32 j.val)) (hL' : ∀ j : Fin n, (y j, BitVec.ofNat 32 j.val) ∈ L) :
    (L.foldl pick (⊥, 0#32)).2 = BitVec.ofNat 32 (first y).val := by
  obtain ⟨i₀, hi₀⟩ := h
  have hbot : top y ≠ ⊥ := fun hb => hi₀ (le_bot_iff.mp (hb ▸ le_top y i₀))
  obtain ⟨hk, hmin⟩ := first_spec y
  have hlt := (first y).isLt
  obtain ⟨h1, h2⟩ := foldl_pick_spec L (⊥, 0#32)
  have hb := h2 _ (List.mem_cons_of_mem _ (hL' (first y)))
  rw [hk] at hb
  rcases List.mem_cons.mp h1 with h1 | h1
  · rw [h1] at hb
    rcases hb with hb | hb
    · exact absurd hb not_lt_bot
    · exact absurd hb.1 hbot
  · obtain ⟨j, hj⟩ := hL _ h1
    rw [hj] at hb ⊢
    have hjl := j.isLt
    rcases hb with hb | ⟨hb, hi⟩
    · exact absurd hb (not_lt.mpr (le_top y j))
    · have hle := Fin.le_def.mp (hmin j hb.symm)
      simp only [] at hi ⊢
      rw [toInt_ofNat (by omega), toInt_ofNat (by omega)] at hi
      congr 1; omega

/-! ## The first index by the greatest descending number -/

/-- The greatest product of the one-hot row with the numbers descending from 8192. -/
theorem top_descending [NeZero n] (hn : n ≤ 8192) (y : Fin n → EReal) (rv : Fin n → EReal) (hrv : ∀ j, rv j = ((8192 - (j.val : ℝ) : ℝ) : EReal)) :
    top (fun j => oneHot y j * rv j) = ((8192 - ((first y).val : ℝ) : ℝ) : EReal) := by
  have hlt : ((first y).val : ℝ) < 8192 := by exact_mod_cast lt_of_lt_of_le (first y).isLt hn
  refine le_antisymm (top_le _ _ fun j => ?_) ?_
  · unfold oneHot
    by_cases h : j = first y
    · rw [if_pos h, one_mul, hrv, h]
    · rw [if_neg h, zero_mul]
      exact_mod_cast (by linarith : (0 : ℝ) ≤ 8192 - ((first y).val : ℝ))
  · refine le_trans (le_of_eq ?_) (le_top (fun j => oneHot y j * rv j) (first y))
    show _ = oneHot y (first y) * rv (first y)
    rw [oneHot, if_pos rfl, one_mul, hrv]

/-- So 8192 less that product, as a word, is the first index. -/
theorem word_descending [NeZero n] (hn : n ≤ 8192) (y : Fin n → EReal) (rv : Fin n → EReal) (hrv : ∀ j, rv j = ((8192 - (j.val : ℝ) : ℝ) : EReal)) :
    Ideal.fptosi 32 (((8192 : ℝ) : EReal) - top (fun j => oneHot y j * rv j)) = BitVec.ofNat 32 (first y).val := by
  have hlt := (first y).isLt
  rw [top_descending hn y rv hrv, ← EReal.coe_sub, sub_sub_cancel, fptosi_nat (by omega)]

/-- The first index of the greatest element of a one-hot row is the index of its one. -/
theorem first_oneHot [NeZero n] (y : Fin n → EReal) : first (oneHot y) = first y := by
  have ht : top (oneHot y) = 1 := by
    refine le_antisymm (top_le _ _ fun j => ?_) ?_
    · unfold oneHot; split_ifs
      · exact le_rfl
      · exact zero_le_one
    · have := le_top (oneHot y) (first y)
      simpa only [oneHot, if_true] using this
  have hs := (first_spec (oneHot y)).1
  rw [ht] at hs
  by_contra hne
  change (if first (oneHot y) = first y then (1 : EReal) else 0) = 1 at hs
  rw [if_neg hne] at hs
  exact zero_ne_one hs

end Cert.Row

end
-- ==== Proof.Spec.lean ====
module

public import proofs.«01_k».proof.Proof.Words
public import Idealize.ShloMosaic.Lib.Pointwise
public import Idealize.ShloMosaic.Lib.ValueIdx

@[expose] public section

set_option maxRecDepth 16384

noncomputable section

namespace Cert.Row

open Idealize.ShloMosaic

/-! The results both programs compute, of an array of logits `X`, batch by time by code. -/

/-- The shape of the logits. -/
abbrev SX : Shape := ⟨3, ![4, 576, 8192]⟩

/-- Row `(b, s)` of the logits, its masked columns `-∞`. -/
def row (X : SX.Idx → EReal) (b : Fin 4) (s : Fin 576) (j : Fin 8192) : EReal :=
  if j.val = 0 ∨ j.val = 2 ∨ j.val = 3 then ⊥ else X (ix3 b s j)

/-- The logits are real numbers. -/
def Finite (X : SX.Idx → EReal) : Prop := ∀ i, X i ≠ ⊥ ∧ X i ≠ ⊤

/-- A row of real logits, masked, is one a softmax is of. -/
theorem row_good {X : SX.Idx → EReal} (h : Finite X) (b : Fin 4) (s : Fin 576) : Good (row X b s) := by
  refine ⟨fun j => ?_, ⟨1, by decide⟩, ?_⟩
  · unfold row; split_ifs
    · exact bot_ne_top
    · exact (h _).2
  · unfold row
    rw [if_neg (by simp)]
    exact (h _).1

/-- How many rows have their greatest element first at column `j`. -/
def hitCount (X : SX.Idx → EReal) (j : Fin 8192) : EReal := ∑ b : Fin 4, ∑ s : Fin 576, oneHot (row X b s) j
/-- The sum of the rows' softmax at column `j`. -/
def probSum (X : SX.Idx → EReal) (j : Fin 8192) : EReal := ∑ b : Fin 4, ∑ s : Fin 576, prob (row X b s) j
/-- The mean over the batches of the rows' entropies. -/
def entMean (X : SX.Idx → EReal) (s : Fin 576) : EReal := (∑ b : Fin 4, entropy (row X b s)) * ((1 / 4 : ℝ) : EReal)

/-- `exp` of minus the sum of `p log (p + c)`, `c` the constant 1e-7: the perplexity of a row of probabilities. -/
def perp (p : Fin 8192 → EReal) : EReal :=
  Ideal.exp (0 - ∑ j, p j * Ideal.log (p j + Ideal.ofBits .f32 0x33D6BF95#32))

/-- The perplexity of the codes' frequencies, -/
def codePerp (X : SX.Idx → EReal) : EReal := perp fun j => hitCount X j * ((1 / 2304 : ℝ) : EReal)
/-- and that of the mean softmax. -/
def probPerp (X : SX.Idx → EReal) : EReal := perp fun j => probSum X j * ((1 / 2304 : ℝ) : EReal)
/-- The share of the codes unused. -/
def unused (X : SX.Idx → EReal) : EReal := (((8192 : ℝ) : EReal) - probPerp X) * ((1 / 8192 : ℝ) : EReal)

/-! ## Sums over all rows, regrouped -/

/-- A sum over `J * n` numbers as `J` sums over `n`. -/
theorem sum_split {J n K : ℕ} (h : J * n = K) (g : Fin K → EReal) :
    ∑ l : Fin K, g l = ∑ s : Fin J, ∑ k : Fin n, g ⟨s.val * n + k.val, by
      have := s.isLt; have := k.isLt; subst h; exact lt_of_lt_of_le (by omega : s.val * n + k.val < s.val * n + n) (by rw [← Nat.succ_mul]; exact Nat.mul_le_mul_right n (by omega))⟩ := by
  subst h
  rw [← finProdFinEquiv.sum_comp, Fintype.sum_prod_type]
  refine Finset.sum_congr rfl fun s _ => Finset.sum_congr rfl fun k _ => congrArg g (Fin.ext ?_)
  show k.val + n * s.val = s.val * n + k.val
  rw [Nat.mul_comm, Nat.add_comm]

/-- The rows at the `n`-th of eight positions: batch `n % 4`, the first or second half of the times. -/
def tokenRow (X : SX.Idx → EReal) (n : ℕ) (r : Fin 288) : Fin 8192 → EReal :=
  row X ⟨n % 4, Nat.mod_lt n (by decide)⟩ ⟨n / 4 % 2 * 288 + r.val, by omega⟩

/-- The eight positions together hold every row once. -/
theorem sum_tokens (X : SX.Idx → EReal) (f : (Fin 8192 → EReal) → EReal) :
    ∑ n ∈ Finset.range 8, ∑ r : Fin 288, f (tokenRow X n r) = ∑ b : Fin 4, ∑ s : Fin 576, f (row X b s) := by
  have h : ∀ b : Fin 4, ∑ s : Fin 576, f (row X b s) = ∑ r : Fin 288, f (tokenRow X b.val r) + ∑ r : Fin 288, f (tokenRow X (4 + b.val) r) := fun b => by
    rw [sum_split (J := 2) (n := 288) (by norm_num) fun s => f (row X b s), Fin.sum_univ_two]
    have hb := b.isLt
    refine congrArg₂ (· + ·) (Finset.sum_congr rfl fun r _ => ?_) (Finset.sum_congr rfl fun r _ => ?_)
    · unfold tokenRow
      congr 2
      · exact Fin.ext (by show b.val = b.val % 4; omega)
      · exact Fin.ext (by show 0 * 288 + r.val = b.val / 4 % 2 * 288 + r.val; omega)
    · unfold tokenRow
      congr 2
      · exact Fin.ext (by show b.val = (4 + b.val) % 4; omega)
      · exact Fin.ext (by show 1 * 288 + r.val = (4 + b.val) / 4 % 2 * 288 + r.val; omega)
  rw [Finset.sum_congr rfl fun b _ => h b, Fin.sum_univ_four]
  simp only [Finset.sum_range_succ, Finset.sum_range_zero, zero_add]
  show _ = (_ + ∑ r : Fin 288, f (tokenRow X 4 r)) + (_ + ∑ r : Fin 288, f (tokenRow X 5 r)) + (_ + ∑ r : Fin 288, f (tokenRow X 6 r)) + (_ + ∑ r : Fin 288, f (tokenRow X 7 r))
  show _ = (∑ r : Fin 288, f (tokenRow X 0 r) + _) + (∑ r : Fin 288, f (tokenRow X 1 r) + _) + (∑ r : Fin 288, f (tokenRow X 2 r) + _) + (∑ r : Fin 288, f (tokenRow X 3 r) + _)
  abel

/-- A quarter of each of four entropies, summed, is their mean. -/
theorem entMean_eq {X : SX.Idx → EReal} (h : Finite X) (s : Fin 576) :
    ∑ b : Fin 4, entropy (row X b s) * ((1 / 4 : ℝ) : EReal) = entMean X s := by
  choose H hH _ using fun b => entropy_eq (row_good h b s)
  unfold entMean
  simp only [hH, ← EReal.coe_mul, ← coe_sum, Finset.sum_mul]

/-- The same at four positions in turn. -/
theorem entMean_tokens {X : SX.Idx → EReal} (h : Finite X) (k : ℕ) (r : Fin 288) (s : Fin 576) (hk : k < 2) (hs : s.val = k * 288 + r.val) :
    ∑ b ∈ Finset.range 4, entropy (tokenRow X (k * 4 + b) r) * ((1 / 4 : ℝ) : EReal) = entMean X s := by
  rw [← entMean_eq h, Finset.sum_range]
  refine Finset.sum_congr rfl fun b _ => ?_
  have hb := b.isLt
  unfold tokenRow
  congr 3
  · exact Fin.ext (by show (k * 4 + b.val) % 4 = b.val; omega)
  · exact Fin.ext (by show (k * 4 + b.val) / 4 % 2 * 288 + r.val = s.val; omega)

/-- The one-hot row depends on the coordinates' numbers only, -/
theorem oneHot_congr (X : SX.Idx → EReal) {b b' : Fin 4} {s s' : Fin 576} {j j' : Fin 8192} (hb : b.val = b'.val) (hs : s.val = s'.val)
    (hj : j.val = j'.val) : oneHot (row X b s) j = oneHot (row X b' s') j' := by
  rw [Fin.ext hb, Fin.ext hs, Fin.ext hj]

/-- The code of a row, as a word. -/
def code (X : SX.Idx → EReal) (b : Fin 4) (s : Fin 576) : BitVec 32 := BitVec.ofNat 32 (first (row X b s)).val

/-- and so does the code. -/
theorem code_congr (X : SX.Idx → EReal) {b b' : Fin 4} {s s' : Fin 576} (hb : b.val = b'.val) (hs : s.val = s'.val) :
    code X b s = code X b' s' := by
  rw [Fin.ext hb, Fin.ext hs]

/-- Rows numbered through. -/
def flatRow (X : SX.Idx → EReal) (n : Fin 2304) : Fin 8192 → EReal :=
  row X ⟨n.val / 576, by omega⟩ ⟨n.val % 576, by omega⟩

/-- A sum over the rows numbered through is the sum over batches and times. -/
theorem sum_flat (X : SX.Idx → EReal) (f : (Fin 8192 → EReal) → EReal) :
    ∑ n : Fin 2304, f (flatRow X n) = ∑ b : Fin 4, ∑ s : Fin 576, f (row X b s) := by
  rw [sum_split (J := 4) (n := 576) (by norm_num) fun n => f (flatRow X n)]
  refine Finset.sum_congr rfl fun b _ => Finset.sum_congr rfl fun s _ => ?_
  have hs := s.isLt
  unfold flatRow
  congr 2
  · exact Fin.ext (by show (b.val * 576 + s.val) / 576 = b.val; omega)
  · exact Fin.ext (by show (b.val * 576 + s.val) % 576 = s.val; omega)

end Cert.Row

end
-- ==== Proof.Block.lean ====
module

public import proofs.«01_k».proof.Proof.IdealBody
public import proofs.«01_k».proof.Proof.Spec
public import Idealize.ShloMosaic.Lib.Pointwise
public import Idealize.ShloMosaic.Lib.ValueIdx

@[expose] public section

set_option maxRecDepth 16384

noncomputable section

namespace Cert.KernelIdeal.Vq

open Idealize.ShloMosaic
open Cert.KernelIdeal Cert.KernelIdeal.Gen

/-! What the body computes on one block, row by row, over the extended reals. -/

/-- Row `r` of a block, its masked columns `-∞`. -/
def brow (x : Vec Ideal S1x288x8192 .f32) (r : Fin 288) (j : Fin 8192) : EReal :=
  if j.val = 0 ∨ j.val = 2 ∨ j.val = 3 then ⊥ else x (ix3 0 r j)

/-- The kernel's row maximum of a block, as the greatest element of each row. -/
theorem rowTop (src : FVec Ideal S288x8192 .f32) (h : S288x8192.Reduces [1] S288) (hφ) (hacc) :
    multiReduction .maximumf [1] S288 src 0xFF800000#32 h hφ hacc = fun i => Row.top fun j => src (ix2 (i 0) j) := by
  funext i
  refine (Ideal.multiReduction_maximumf_single src _ h hφ hacc i).trans ?_
  rw [show FloatOps.ofBits (F := Ideal) .f32 0xFF800000#32 = ⊥ from Row.bits_bot]
  refine congrArg (fun f => Finset.fold max ⊥ f Finset.univ) (funext fun k => congrArg src (funext fun a => Fin.ext ?_))
  match a with
  | ⟨0, _⟩ => rfl
  | ⟨1, _⟩ => rfl

/-- The masked block at a coordinate. -/
theorem masked_at (x : Vec Ideal S1x288x8192 .f32) (r : Fin 288) (j : Fin 8192) : masked x (ix2 r j) = brow x r j := by
  unfold brow
  pointwise [masked, lanesLo, lanesHi, k0_pay6]
  have h0 : ∀ b : BitVec 1, 1#1 ||| b = 1#1 := by decide
  have h0' : ∀ b : BitVec 1, b ||| 1#1 = 1#1 := by decide
  have hj := j.isLt
  have e0 := Row.cmpi_col (j := j.val) (k := 0) (by omega) (by omega)
  have e2 := Row.cmpi_col (j := j.val) (k := 2) (by omega) (by omega)
  have e3 := Row.cmpi_col (j := j.val) (k := 3) (by omega) (by omega)
  by_cases h1 : j.val < 128
  swap
  · have hne : ¬(j.val = 0 ∨ j.val = 2 ∨ j.val = 3) := by omega
    rw [dif_neg h1, if_neg hne]
    exact congrArg (fun k => x (ix3 0 r k)) (Fin.ext (by show 128 + (j.val - 128) = j.val; omega))
  rw [dif_pos h1]
  split_ifs with h2
  · rw [e0, e2, e3]
    rcases h2 with h | h | h <;> simp [h, IntOp.ori, Scalar.select] <;> rfl
  · rw [e0, e2, e3]
    push Not at h2
    simp [h2, IntOp.ori, Scalar.select]

/-- A row's maximum is its greatest element. -/
theorem rowMax_at (x : Vec Ideal S1x288x8192 .f32) (r : Fin 288) (z : Fin 1) : rowMax x (ix2 r z) = Row.top (brow x r) := by
  have h : (fun j => masked x (ix2 r j)) = brow x r := funext fun j => masked_at x r j
  rw [← h]
  refine (congrArg (fun v => shapeCast S288x1 v shapeCasts_S288_S288x1 (ix2 r z)) (rowTop (masked x) reduces_S288x8192_S288 (.inl rfl) rfl)).trans ?_
  pointwise

/-- The exponentials of a block, row by row. -/
theorem expo_at (x : Vec Ideal S1x288x8192 .f32) (r : Fin 288) (j : Fin 8192) : expo x (ix2 r j) = Row.ex (brow x r) j := by
  unfold Row.ex
  rw [← rowMax_at x r 0, ← masked_at x r j]
  unfold expo rowMax masked
  pointwise [k0_pay8]

/-- The sum of the exponentials of a row. -/
theorem total_at (x : Vec Ideal S1x288x8192 .f32) (r : Fin 288) (z : Fin 1) : k0_pay9 (lanesLo x) (lanesHi x) (ix2 r z) = Row.total (brow x r) := by
  have h : (fun j => expo x (ix2 r j)) = Row.ex (brow x r) := funext fun j => expo_at x r j
  unfold Row.total
  rw [← h]
  unfold expo
  pointwise [k0_pay9]

/-- The reciprocal of that sum. -/
theorem recip_at (x : Vec Ideal S1x288x8192 .f32) (r : Fin 288) (z : Fin 1) : recip x (ix2 r z) = Ideal.div 1 (Row.total (brow x r)) := by
  rw [← total_at x r z]
  unfold recip
  pointwise [k0_pay10]

/-- The sum over a row of exponential times element. -/
theorem ent_sum (E Y : FVec Ideal S288x8192 .f32) (r : Fin 288) (z : Fin 1) :
    shapeCast S288x1 (multiReduction .add [1] S288 (mulf E Y) 0x00000000#32 reduces_S288x8192_S288 (.inl rfl) rfl) shapeCasts_S288_S288x1 (ix2 r z)
   = ∑ j : Fin 8192, E (ix2 r j) * Y (ix2 r j) := by
  pointwise

/-- The entropy as the kernel puts it together from a row's sums. -/
theorem ent_out (S M Z R : FVec Ideal S288x1 .f32) (r : Fin 288) :
    shapeCast S288 (subf (log Z) (mulf (subf S (mulf M Z)) R)) shapeCasts_S288x1_S288 (ix1 r)
   = Ideal.log (Z (ix2 r 0)) - (S (ix2 r 0) - M (ix2 r 0) * Z (ix2 r 0)) * R (ix2 r 0)  := by
  pointwise

/-- The kernel's entropy of a row, written out. -/
theorem rowEnt_eq (x : Vec Ideal S1x288x8192 .f32) (r : Fin 288) : rowEnt x (ix1 r) =
  Ideal.log (k0_pay9 (lanesLo x) (lanesHi x) (ix2 r 0)) - ((∑ j : Fin 8192, expo x (ix2 r j) * masked x (ix2 r j)) - rowMax x (ix2 r 0) * k0_pay9 (lanesLo x) (lanesHi x) (ix2 r 0)) * recip x (ix2 r 0) := by
  rw [← ent_sum (expo x) (masked x) r 0]
  exact ent_out _ (rowMax x) (k0_pay9 (lanesLo x) (lanesHi x)) (recip x) r

/-- The kernel's entropy of a row is the entropy of its softmax. -/
theorem rowEnt_at (x : Vec Ideal S1x288x8192 .f32) (r : Fin 288) (hg : Row.Good (brow x r)) : rowEnt x (ix1 r) = Row.entropy (brow x r) := by
  obtain ⟨H, h1, h2⟩ := Row.entropy_eq hg
  refine (rowEnt_eq x r).trans (Eq.trans ?_ (h2.trans h1.symm))
  rw [total_at, rowMax_at, recip_at, Finset.sum_congr rfl fun j _ => by rw [expo_at, masked_at]]

/-- The rounded-down exponentials are one exactly where the row is greatest. -/
theorem hits_at (x : Vec Ideal S1x288x8192 .f32) (r : Fin 288) (hg : Row.Good (brow x r)) (j : Fin 8192) :
    hits x (ix2 r j) = if brow x r j = Row.top (brow x r) then 1 else 0 := by
  rw [← Row.floor_ex hg, ← expo_at x r j]
  unfold hits expo
  pointwise [k0_pay12]

/-- The number of ones in a block, column by column. -/
theorem ones_at (h : FVec Ideal S288x8192 .f32) : k0_pay17 h = ∑ j : Fin 8192, ∑ r : Fin 288, h (ix2 r j) := by
  pointwise [k0_pay17, k0_pay16, k0_pay15]
  simp

/-- The number of ones in each column. -/
theorem count_at (h : FVec Ideal S288x8192 .f32) (z : Fin 1) (j : Fin 8192) : k0_pay16 h (ix2 z j) = ∑ r : Fin 288, h (ix2 r j) := by
  pointwise [k0_pay16, k0_pay15]

/-- The lowest column of a row's greatest elements, as a word. -/
theorem lowest_at (x : Vec Ideal S1x288x8192 .f32) (r : Fin 288) :
    k0_pay21 (masked x) (rowMax x) (ix1 r) = BitVec.ofNat 32 (Row.first (brow x r)).val := by
  rw [← Row.fold_min_first le_rfl (brow x r), ← rowMax_at x r 0]
  have h : (fun j => masked x (ix2 r j)) = brow x r := funext fun j => masked_at x r j
  rw [← h]
  pointwise [k0_pay21]

/-- The one-hot row the repair of ties writes. -/
theorem oneHot_at (x : Vec Ideal S1x288x8192 .f32) (r : Fin 288) (j : Fin 8192) :
    k0_pay22 (masked x) (rowMax x) (ix2 r j) = Row.oneHot (brow x r) j := by
  have hj := j.isLt
  have hf := (Row.first (brow x r)).isLt
  pointwise [k0_pay22]
  rw [lowest_at, Row.cmpi_col (by omega) (by omega)]
  unfold Row.oneHot
  by_cases h : j = Row.first (brow x r)
  · rw [if_pos h, ← h, decide_eq_true rfl]; norm_num [FloatOps.sitofp]; decide
  · rw [if_neg h, decide_eq_false fun h' => h (Fin.ext h')]; norm_num [FloatOps.sitofp]

/-- The code read off the descending column weights. -/
theorem descend_at (h : FVec Ideal S288x8192 .f32) (rv : Vec Ideal S1x8192 .f32) (z w : Fin 1) (r : Fin 288) :
    k0_pay14 h rv (ix3 z w r) = Ideal.fptosi 32 (((8192 : ℝ) : EReal) - Row.top fun j => h (ix2 r j) * rv (ix2 0 j)) := by
  rw [← Row.bits_8192]
  refine (congrArg (fun v => shapeCast S1x1x288 (fptosi 32 (subf (broadcast S288 (Scalar.ofBits .f32 0x46000000#32 : Ideal .f32)) v)) shapeCasts_S288_S1x1x288 (ix3 z w r))
    (rowTop (mulf h (broadcastTo S288x8192 (shapeCast S1x8192 rv shapeCasts_S1x8192_S1x8192) broadcasts_S1x8192_S288x8192)) reduces_S288x8192_S288 (.inl rfl) rfl)).trans ?_
  pointwise
  rfl

/-- Some row of the block has its greatest element twice. -/
theorem tied_iff (h : FVec Ideal S288x8192 .f32) : Tied h ↔ k0_pay17 h ≠ ((288 : ℝ) : EReal) := by
  rw [← Row.bits_288]
  show Scalar.cmpi .ne (Scalar.extui (BitVec.ofBool (decide (k0_pay17 h ≠ Ideal.ofBits .f32 0x43900000#32))) : BitVec 32) 0#32 = 1#1 ↔ _
  by_cases hh : k0_pay17 h ≠ Ideal.ofBits .f32 0x43900000#32
  · rw [decide_eq_true hh]; exact ⟨fun _ => hh, fun _ => by decide⟩
  · rw [decide_eq_false hh]; exact ⟨fun h' => absurd h' (by decide), fun h' => absurd h' hh⟩

/-- A block has no tie exactly when its ones are as many as its rows. -/
theorem sharp_iff (h : FVec Ideal S288x8192 .f32) : Sharp h ↔ k0_pay17 h = ((288 : ℝ) : EReal) := by
  rw [← Row.bits_288]
  show Scalar.cmpi .ne (Scalar.extui (BitVec.ofBool (decide (k0_pay17 h = Ideal.ofBits .f32 0x43900000#32))) : BitVec 32) 0#32 = 1#1 ↔ _
  by_cases hh : k0_pay17 h = Ideal.ofBits .f32 0x43900000#32
  · rw [decide_eq_true hh]; exact ⟨fun _ => hh, fun _ => by decide⟩
  · rw [decide_eq_false hh]; exact ⟨fun h' => absurd h' (by decide), fun h' => absurd h' hh⟩

/-- Where no row has a tie the ones are the one-hot rows. -/
theorem hits_oneHot (x : Vec Ideal S1x288x8192 .f32) (hg : ∀ r, Row.Good (brow x r)) (h : ¬Tied (hits x)) (r : Fin 288) (j : Fin 8192) :
    hits x (ix2 r j) = Row.oneHot (brow x r) j := by
  rw [tied_iff, not_not, ones_at] at h
  have hc : (∑ j, ∑ r, if brow x r j = Row.top (brow x r) then (1 : EReal) else 0) = (((288 : ℕ) : ℝ) : EReal) := by
    refine Eq.trans (Finset.sum_congr rfl fun j _ => Finset.sum_congr rfl fun r _ => (hits_at x r (hg r) j).symm) (h.trans ?_)
    norm_num
  have := (Row.count_iff fun r => brow x r).mp hc r
  rw [hits_at x r (hg r) j]
  unfold Row.oneHot
  by_cases hj : j = Row.first (brow x r)
  · rw [if_pos hj, hj, if_pos (Row.first_spec (brow x r)).1]
  · rw [if_neg hj, if_neg fun h' => hj (this j h')]

/-- The block of quantised rows: one at the first index of each row's greatest element. -/
theorem sub_at (x : Vec Ideal S1x288x8192 .f32) (hg : ∀ r, Row.Good (brow x r)) (z : Fin 1) (r : Fin 288) (j : Fin 8192) :
    subOut x (ix3 z r j) = Row.oneHot (brow x r) j := by
  unfold subOut
  by_cases h : Tied (hits x)
  · rw [if_pos h, ← oneHot_at x r j]
    pointwise [k0_pay23]
  · rw [if_neg h, ← hits_oneHot x hg h r j]
    unfold hits
    pointwise [k0_pay13]

/-- The block of indices: the first index of each row's greatest element. -/
theorem tgt_at (x : Vec Ideal S1x288x8192 .f32) (hg : ∀ r, Row.Good (brow x r)) (rv : Vec Ideal S1x8192 .f32)
    (hrv : ∀ j : Fin 8192, rv (ix2 0 j) = ((8192 - (j.val : ℝ) : ℝ) : EReal)) (z w : Fin 1) (r : Fin 288) :
    tgtOut x rv (ix3 z w r) = BitVec.ofNat 32 (Row.first (brow x r)).val := by
  unfold tgtOut
  by_cases h : Tied (hits x)
  · rw [if_pos h, ← lowest_at x r]
    pointwise [k0_pay24]
  · rw [if_neg h, descend_at, ← Row.word_descending le_rfl (brow x r) (fun j => rv (ix2 0 j)) hrv]
    exact congrArg (fun f => Ideal.fptosi 32 (((8192 : ℝ) : EReal) - Row.top f)) (funext fun j => by rw [hits_oneHot x hg h r j])

/-- The sums of probabilities start at zero, -/
theorem pay18_at (a : Fin 8) (j : Fin 8192) : (k0_pay18 : FVec Ideal S8x8192 .f32) (ix2 a j) = 0 := by
  pointwise [k0_pay18]

/-- and so do the counts. -/
theorem pay19_at (z : Fin 1) (j : Fin 8192) : (k0_pay19 : FVec Ideal S1x8192 .f32) (ix2 z j) = 0 := by
  pointwise [k0_pay19]

/-- The running counts: the block's one-hot rows are added. -/
theorem countOut_at (i : grid0.Coords) (x : Vec Ideal S1x288x8192 .f32) (hg : ∀ r, Row.Good (brow x r)) (n : Vec Ideal S1x8192 .f32)
    (z : Fin 1) (j : Fin 8192) :
    countOut i x n (ix2 z j) = (open Classical in if AtFirst i then 0 else n (ix2 z j)) + ∑ r : Fin 288, Row.oneHot (brow x r) j := by
  have h0 : (open Classical in if AtFirst i then (k0_pay19 : FVec Ideal S1x8192 .f32) else n) (ix2 z j) = open Classical in if AtFirst i then 0 else n (ix2 z j) := by
    by_cases h : AtFirst i
    · rw [if_pos h, if_pos h, pay19_at]
    · rw [if_neg h, if_neg h]
  rw [← h0]
  unfold countOut countSharp
  by_cases h : Tied (hits x)
  · have h' : ¬Sharp (hits x) := fun hs => (tied_iff _).mp h ((sharp_iff _).mp hs)
    rw [if_pos h, if_neg h', ← Finset.sum_congr rfl fun r _ => oneHot_at x r j]
    pointwise [k0_pay25, k0_pay15]
  · have h' : Sharp (hits x) := (sharp_iff _).mpr (not_not.mp fun hh => h ((tied_iff _).mpr hh))
    rw [if_neg h, if_pos h', ← Finset.sum_congr rfl fun r _ => hits_oneHot x hg h r j, ← count_at _ z j]
    pointwise [k0_pay20]

/-- The running sums of probabilities: eight rows, each with every eighth row of the block added. -/
theorem psumOut_at (i : grid0.Coords) (x : Vec Ideal S1x288x8192 .f32) (hg : ∀ r, Row.Good (brow x r)) (s : Vec Ideal S8x8192 .f32)
    (a : Fin 8) (j : Fin 8192) :
    psumOut i x s (ix2 a j) = (open Classical in if AtFirst i then 0 else s (ix2 a j))
      + ∑ q : Fin 36, Row.prob (brow x ⟨q.val * 8 + a.val, by omega⟩) j := by
  have h0 : (open Classical in if AtFirst i then (k0_pay18 : FVec Ideal S8x8192 .f32) else s) (ix2 a j) = open Classical in if AtFirst i then 0 else s (ix2 a j) := by
    by_cases h : AtFirst i
    · rw [if_pos h, if_pos h, pay18_at]
    · rw [if_neg h, if_neg h]
  rw [← h0, Finset.sum_congr rfl fun q _ => Row.prob_eq (hg _) j, Finset.sum_congr rfl fun q _ => by rw [← expo_at, ← recip_at x _ 0]]
  unfold psumOut
  pointwise [k0_pay26]

/-- The running entropies: a quarter of the block's is stored at the first of four points and added at the others. -/
theorem entOut_start (i : grid0.Coords) (x : Vec Ideal S1x288x8192 .f32) (hg : ∀ r, Row.Good (brow x r)) (e : Vec Ideal S1x1x288 .f32)
    (h4 : k0_cond4 i = 1#1) (h5 : ¬k0_cond5 i = 1#1) (z w : Fin 1) (r : Fin 288) :
    entOut i x e (ix3 z w r) = Row.entropy (brow x r) * ((1 / 4 : ℝ) : EReal) := by
  rw [← Row.bits_quarter, ← rowEnt_at x r (hg r)]
  unfold entOut
  rw [if_neg h5, if_pos h4]
  pointwise [k0_pay1]

/-- At a later batch the entropies gain a quarter of each row's. -/
theorem entOut_add (i : grid0.Coords) (x : Vec Ideal S1x288x8192 .f32) (hg : ∀ r, Row.Good (brow x r)) (e : Vec Ideal S1x1x288 .f32)
    (h4 : ¬k0_cond4 i = 1#1) (h5 : k0_cond5 i = 1#1) (z w : Fin 1) (r : Fin 288) :
    entOut i x e (ix3 z w r) = e (ix3 z w r) + Row.entropy (brow x r) * ((1 / 4 : ℝ) : EReal) := by
  rw [← Row.bits_quarter, ← rowEnt_at x r (hg r)]
  unfold entOut
  rw [if_pos h5, if_neg h4]
  pointwise [k0_pay2]

/-- The named reciprocal of the number of rows. -/
theorem inv_n : Named.named (F := Ideal) κ "inv_n" (φ := .f32) 0x39E38E39#32 = ((1 / 2304 : ℝ) : EReal) := rfl

/-- The codes' perplexity, of the counts. -/
theorem codePerp_at (n : Vec Ideal S1x8192 .f32) (z w : Fin 1) : k0_pay4 n (ix2 z w) = Row.perp fun j => n (ix2 0 j) * ((1 / 2304 : ℝ) : EReal) := by
  rw [← inv_n]
  unfold Row.perp
  pointwise [k0_pay4]

/-- The mean softmax's perplexity, of the sums of probabilities. -/
theorem probPerp_at (s : Vec Ideal S8x8192 .f32) (z w : Fin 1) :
    k0_pay3 s (ix2 z w) = Row.perp fun j => (∑ a : Fin 8, s (ix2 a j)) * ((1 / 2304 : ℝ) : EReal) := by
  rw [← inv_n]
  unfold Row.perp
  pointwise [k0_pay3]

/-- The share of the codes unused, of the sums of probabilities. -/
theorem diversity_at (s : Vec Ideal S8x8192 .f32) (z w : Fin 1) :
    k0_pay5 s (ix2 z w) = (((8192 : ℝ) : EReal) - k0_pay3 s (ix2 z w)) * ((1 / 8192 : ℝ) : EReal) := by
  rw [← Row.bits_8192, ← Row.bits_inv_8192]
  pointwise [k0_pay5]

end Cert.KernelIdeal.Vq

end
-- ==== Proof.Final.lean ====
module

public import proofs.«01_k».proof.Proof.IdealRun
public import proofs.«01_k».proof.Proof.Block
public import Idealize.ShloMosaic.Lib.Claim

@[expose] public section

set_option maxRecDepth 16384

noncomputable section

namespace Cert.KernelIdeal.Vq

open Idealize.ShloMosaic Idealize.ShloMosaic.TcCoe Idealize.SL.Sem
open Idealize.ShloMosaic.Pipeline (Dat Cfg Window)
open Cert.KernelIdeal Cert.KernelIdeal.Gen

/-! The kernel's result arrays after the run, over the extended reals. -/

variable (m : (ℓ : Loc nD τ sig) → Buf (Elt Ideal) ℓ) (c : Dev nD)

/-- The logits at entry. -/
abbrev X : Row.SX.Idx → EReal := m ((c : Thread nD τ).loc main_arg0)

/-- The windows' block indices: the point's number is four times its first coordinate plus its second. -/
theorem idx : ∀ t : Fin cfg0.N, win0_0.index t = ![t.val % 4, t.val / 4, 0] ∧ win0_1.index t = ![0, 0]
    ∧ win0_2.index t = ![t.val % 4, t.val / 4, 0] ∧ win0_3.index t = ![t.val % 4 * 2 + t.val / 4, 0, 0]
    ∧ win0_4.index t = ![t.val / 4, 0, 0] ∧ t.val / 4 < 2 :=
  (by decide +kernel : ∀ t : Fin grid0.N, _)

/-- The block of logits at a point is that position's rows. -/
theorem brow_eq (t : Fin cfg0.N) (r : Fin 288) : brow (xs m c t) r = Row.tokenRow (X m c) t.val r := by
  have h := (idx t).2.2.2.2.2
  funext j
  unfold brow Row.tokenRow Row.row
  refine if_congr Iff.rfl rfl ?_
  unfold xs
  have h2 : t.val / 4 % 2 = t.val / 4 := Nat.mod_eq_of_lt h
  blk_ext [iblk, V, idx t]

/-- The row of numbers, as the host operations before the region compute it. -/
def descending : FVec Ideal S1x8192 .f32 :=
  shapeCast S1x8192 (subf (broadcastInDim S8192 ![] bcast_S_S8192 (constant S_ .f32 0x46000000#32)) (sitofp .f32 (iotaInDim S8192 32 0)))
    shapeCasts_S8192_S1x8192

/-- The descending column weights at a column. -/
theorem descending_at (j : Fin 8192) : descending (ix2 0 j) = ((8192 - (j.val : ℝ) : ℝ) : EReal) := by
  have hj := j.isLt
  pointwise [descending]
  rw [Row.bits_8192, EReal.coe_sub]
  congr 1
  show (((BitVec.ofNat 32 j.val).toInt : ℝ) : EReal) = _
  rw [Row.toInt_ofNat (by omega)]
  norm_num

/-- The second operand holds the descending column weights. -/
theorem V_descending : V m c main_call0_v3 = descending := by
  entry_read
  simp only [StableHlo.TRef.ofBuf_toBuf]
  rfl

/-- The row of numbers descends from 8192. -/
theorem rs_eq (t : Fin cfg0.N) (j : Fin 8192) : rs m c t (ix2 0 j) = ((8192 - (j.val : ℝ) : ℝ) : EReal) := by
  refine Eq.trans ?_ (descending_at j)
  unfold rs
  blk_simp [iblk, idx t]
  rw [V_descending]
  blk_ext [idx t]

/-- Every row of every block is one a softmax is of. -/
theorem good (hX : Row.Finite (X m c)) (t : Fin cfg0.N) (r : Fin 288) : Row.Good (brow (xs m c t) r) := by
  rw [brow_eq]; exact Row.row_good hX _ _

/-- The running counts after point `n`. -/
theorem countAt_at (hX : Row.Finite (X m c)) (z : Fin 1) (j : Fin 8192) : ∀ (n : ℕ) (h : n < cfg0.N),
    countAt m c n h (ix2 z j) = ∑ k ∈ Finset.range (n + 1), ∑ r : Fin 288, Row.oneHot (Row.tokenRow (X m c) k r) j
  | 0, h => by
    rw [Finset.sum_range_one]
    unfold countAt
    rw [countOut_at _ _ (good m c hX _), if_pos ((atFirst_iff ⟨0, h⟩).mpr rfl), zero_add]
    simp only [brow_eq]
  | n + 1, h => by
    rw [Finset.sum_range_succ, ← countAt_at hX z j n (Nat.lt_of_succ_lt h)]
    conv_lhs => unfold countAt
    rw [countOut_at _ _ (good m c hX _), if_neg (fun h' => absurd ((atFirst_iff ⟨n + 1, h⟩).mp h') (Nat.succ_ne_zero n))]
    simp only [brow_eq]

/-- The running sums of probabilities after point `n`. -/
theorem psumAt_at (hX : Row.Finite (X m c)) (a : Fin 8) (j : Fin 8192) : ∀ (n : ℕ) (h : n < cfg0.N),
    psumAt m c n h (ix2 a j)
      = ∑ k ∈ Finset.range (n + 1), ∑ q : Fin 36, Row.prob (Row.tokenRow (X m c) k ⟨q.val * 8 + a.val, by omega⟩) j
  | 0, h => by
    rw [Finset.sum_range_one]
    unfold psumAt
    rw [psumOut_at _ _ (good m c hX _), if_pos ((atFirst_iff ⟨0, h⟩).mpr rfl), zero_add]
    simp only [brow_eq]
  | n + 1, h => by
    rw [Finset.sum_range_succ, ← psumAt_at hX a j n (Nat.lt_of_succ_lt h)]
    conv_lhs => unfold psumAt
    rw [psumOut_at _ _ (good m c hX _), if_neg (fun h' => absurd ((atFirst_iff ⟨n + 1, h⟩).mp h') (Nat.succ_ne_zero n))]
    simp only [brow_eq]

/-- The counts after the last point. -/
theorem count_last (hX : Row.Finite (X m c)) (z : Fin 1) (j : Fin 8192) (t : Fin cfg0.N) (ht : t.val = 7) :
    countAt m c t.val t.isLt (ix2 z j) = Row.hitCount (X m c) j := by
  rw [countAt_at m c hX z j, ht]
  exact Row.sum_tokens (X m c) fun y => Row.oneHot y j

/-- The sums of probabilities after the last point, the eight rows together. -/
theorem psum_last (hX : Row.Finite (X m c)) (j : Fin 8192) (t : Fin cfg0.N) (ht : t.val = 7) :
    ∑ a : Fin 8, psumAt m c t.val t.isLt (ix2 a j) = Row.probSum (X m c) j := by
  rw [Finset.sum_congr rfl fun a _ => psumAt_at m c hX a j t.val t.isLt, Finset.sum_comm, ht]
  refine Eq.trans (Finset.sum_congr rfl fun k _ => ?_) (Row.sum_tokens (X m c) fun y => Row.prob y j)
  rw [Row.sum_split (J := 36) (n := 8) (by norm_num) fun r => Row.prob (Row.tokenRow (X m c) k r) j, Finset.sum_comm]

/-- The running entropies: after point `n`, a quarter of those of the points since the last whose number divides by four. -/
theorem entAt_at (hX : Row.Finite (X m c)) (z w : Fin 1) (r : Fin 288) : ∀ (n : ℕ) (h : n < cfg0.N),
    entAt m c n h (ix3 z w r) = ∑ b ∈ Finset.range (n % 4 + 1), Row.entropy (Row.tokenRow (X m c) (n / 4 * 4 + b) r) * ((1 / 4 : ℝ) : EReal)
  | 0, h => by
    rw [Finset.sum_range_one]
    unfold entAt
    rw [entOut_start _ _ (good m c hX _) _ ((cond4_iff ⟨0, h⟩).mpr rfl) (fun h' => absurd rfl ((cond5_iff ⟨0, h⟩).mp h'))]
    simp only [brow_eq]
  | n + 1, h => by
    by_cases h4 : (n + 1) % 4 = 0
    · rw [h4, Finset.sum_range_one]
      unfold entAt
      rw [entOut_start _ _ (good m c hX _) _ ((cond4_iff ⟨n + 1, h⟩).mpr h4) (fun h' => absurd h4 ((cond5_iff ⟨n + 1, h⟩).mp h'))]
      simp only [brow_eq]
      rw [show (n + 1) / 4 * 4 + 0 = n + 1 by omega]
    · have e1 : (n + 1) % 4 = n % 4 + 1 := by omega
      have e2 : (n + 1) / 4 = n / 4 := by omega
      have e3 : n / 4 * 4 + (n % 4 + 1) = n + 1 := by omega
      rw [e1, Finset.sum_range_succ, e2, e3, ← entAt_at hX z w r n (Nat.lt_of_succ_lt h)]
      conv_lhs => unfold entAt
      rw [entOut_add _ _ (good m c hX _) _ (fun h' => h4 ((cond4_iff ⟨n + 1, h⟩).mp h')) ((cond5_iff ⟨n + 1, h⟩).mpr h4)]
      simp only [brow_eq]

/-! ## The result arrays -/

/-- The quantised logits: one-hot rows. -/
def subArr (X : Row.SX.Idx → EReal) : S4x576x8192.Idx → EReal := fun i =>
  Row.oneHot (Row.row X (i 0) (i 1)) (i 2)

/-- The codes: position `(2 b + k, 0, r)` is row `288 k + r` of batch `b`. -/
def tgtArr (X : Row.SX.Idx → EReal) : S8x1x288.Idx → BitVec 32 := fun i =>
  Row.code X ⟨(i 0).val / 2, by have h : (i 0).val < 8 := (i 0).isLt; omega⟩
    ⟨(i 0).val % 2 * 288 + (i 2).val, by have h : (i 2).val < 288 := (i 2).isLt; omega⟩

/-- The mean entropies: position `(k, 0, r)` is row `288 k + r`. -/
def entArr (X : Row.SX.Idx → EReal) : S2x1x288.Idx → EReal := fun i =>
  Row.entMean X ⟨(i 0).val * 288 + (i 2).val, by
    have h : (i 0).val < 2 := (i 0).isLt
    have h' : (i 2).val < 288 := (i 2).isLt
    omega⟩

/-- The one-hot block a grid point writes. -/
theorem sub_point (hX : Row.Finite (X m c)) (t : Fin cfg0.N) (z : Fin 1) (r : Fin 288) (j : Fin 8192) :
    subOut (xs m c t) (ix3 z r j) = Row.oneHot (Row.tokenRow (X m c) t.val r) j := by
  rw [sub_at (xs m c t) (good m c hX t), brow_eq]

/-- The codes a grid point writes. -/
theorem tgt_point (hX : Row.Finite (X m c)) (t : Fin cfg0.N) (z w : Fin 1) (r : Fin 288) :
    tgtOut (xs m c t) (rs m c t) (ix3 z w r) = BitVec.ofNat 32 (Row.first (Row.tokenRow (X m c) t.val r)).val := by
  rw [tgt_at (xs m c t) (good m c hX t) (rs m c t) (rs_eq m c t), brow_eq]

/-- The one-hot rows. -/
theorem final2 (hX : Row.Finite (X m c)) : (dats m 0 c).arrAt 2 (cfgs 0).N = subArr (X m c) := by
  refine (dats m 0 c).arrAt_eq_of_covers 2 _ (by decide +kernel) fun t hf y => ?_
  have ht := (idx t).2.2.2.2.2
  blk_simp
  rw [after2]
  refine Eq.trans (b := subOut (xs m c t) (ix3 (y 0) (y 1) (y 2))) (by blk_ext) ?_
  refine (sub_point m c hX t (y 0) (y 1) (y 2)).trans ?_
  refine Row.oneHot_congr (X m c) ?_ ?_ ?_
  all_goals (blk_simp [idx t]; try (dsimp only; omega))

/-- The codes. -/
theorem final3 (hX : Row.Finite (X m c)) : (dats m 0 c).arrAt 3 (cfgs 0).N = tgtArr (X m c) := by
  refine (dats m 0 c).arrAt_eq_of_covers 3 _ (by decide +kernel) fun t hf y => ?_
  have ht := (idx t).2.2.2.2.2
  blk_simp
  rw [after3]
  refine Eq.trans (b := tgtOut (xs m c t) (rs m c t) (ix3 (y 0) (y 1) (y 2))) (by blk_ext) ?_
  refine (tgt_point m c hX t (y 0) (y 1) (y 2)).trans ?_
  refine Row.code_congr (X m c) ?_ ?_
  all_goals (blk_simp [idx t]; try (dsimp only; omega))

/-- The mean entropies. -/
theorem final4 (hX : Row.Finite (X m c)) : (dats m 0 c).arrAt 4 (cfgs 0).N = entArr (X m c) := by
  refine (dats m 0 c).arrAt_eq_of_covers 4 _ (by decide +kernel) fun t hf y => ?_
  have ht := (idx t).2.2.2.2.2
  have h3 := (flush0_4 t).mp hf
  blk_simp
  rw [after4]
  refine Eq.trans (b := entAt m c t.val t.isLt (ix3 (y 0) (y 1) (y 2))) (by blk_ext) ?_
  refine (entAt_at m c hX (y 0) (y 1) (y 2) t.val t.isLt).trans ?_
  rw [h3]
  refine Row.entMean_tokens hX (t.val / 4) (y 2) _ ht ?_
  blk_simp [idx t]

/-- The perplexity of the codes. -/
theorem final5 (hX : Row.Finite (X m c)) : (dats m 0 c).arrAt 5 (cfgs 0).N = fun _ : S1x1.Idx => Row.codePerp (X m c) := by
  refine (dats m 0 c).arrAt_eq_of_after_last 5 t0_7 (by decide +kernel) _ fun j => ?_
  blk_simp
  rw [after5]
  refine Eq.trans (b := k0_pay4 (countAt m c t0_7.val t0_7.isLt) (ix2 (j 0) (j 1))) (by blk_ext) ?_
  refine (codePerp_at _ (j 0) (j 1)).trans (congrArg Row.perp (funext fun k => ?_))
  rw [count_last m c hX 0 k t0_7 rfl]

/-- The perplexity of the mean softmax, of whatever sums of probabilities are there at the last point. -/
theorem prob_last (hX : Row.Finite (X m c)) (z w : Fin 1) :
    k0_pay3 (psumAt m c t0_7.val t0_7.isLt) (ix2 z w) = Row.probPerp (X m c) := by
  refine (probPerp_at _ z w).trans (congrArg Row.perp (funext fun k => ?_))
  rw [psum_last m c hX k t0_7 rfl]

/-- The perplexity of the mean softmax. -/
theorem final6 (hX : Row.Finite (X m c)) : (dats m 0 c).arrAt 6 (cfgs 0).N = fun _ : S1x1.Idx => Row.probPerp (X m c) := by
  refine (dats m 0 c).arrAt_eq_of_after_last 6 t0_7 (by decide +kernel) _ fun j => ?_
  blk_simp
  rw [after6]
  refine Eq.trans (b := k0_pay3 (psumAt m c t0_7.val t0_7.isLt) (ix2 (j 0) (j 1))) (by blk_ext) ?_
  exact prob_last m c hX (j 0) (j 1)

/-- The share of the codes unused. -/
theorem final7 (hX : Row.Finite (X m c)) : (dats m 0 c).arrAt 7 (cfgs 0).N = fun _ : S1x1.Idx => Row.unused (X m c) := by
  refine (dats m 0 c).arrAt_eq_of_after_last 7 t0_7 (by decide +kernel) _ fun j => ?_
  blk_simp
  rw [after7]
  refine Eq.trans (b := k0_pay5 (psumAt m c t0_7.val t0_7.isLt) (ix2 (j 0) (j 1))) (by blk_ext) ?_
  exact (diversity_at _ (j 0) (j 1)).trans (congrArg (fun p => (((8192 : ℝ) : EReal) - p) * ((1 / 8192 : ℝ) : EReal)) (prob_last m c hX (j 0) (j 1)))

end Cert.KernelIdeal.Vq

end
-- ==== Proof.Ref.lean ====
module

public import proofs.«01_k».proof.ReferenceIdeal
public import proofs.«01_k».proof.Proof.Gen.ReferenceIdeal
public import Idealize.ShloMosaic.Lib.Claim
public import Idealize.ShloMosaic.Lib.Quiescent
public import Idealize.ShloMosaic.PureOps.Ideal

@[expose] public section

set_option maxRecDepth 16384

noncomputable section

namespace Cert.ReferenceIdeal.Vq

open Idealize.ShloMosaic Idealize.SL.Sem
open Cert.ReferenceIdeal
open Facts₀

/-! The reference's results as functions of its argument, one definition per stage, each written in the operations the
program runs. -/

/-- The columns taken out of the softmax: `-∞` there, zero elsewhere. -/
def maskRow : FVec Ideal S8192 .f32 :=
  select (ori (ori (cmpi .eq (iotaInDim S8192 32 0) (broadcastInDim S8192 ![] bcast_S_S8192 (constantI S_ 32 0#32)))
      (cmpi .eq (iotaInDim S8192 32 0) (broadcastInDim S8192 ![] bcast_S_S8192 (constantI S_ 32 2#32))))
      (cmpi .eq (iotaInDim S8192 32 0) (broadcastInDim S8192 ![] bcast_S_S8192 (constantI S_ 32 3#32))))
    (broadcastInDim S8192 ![] bcast_S_S8192 (constant S_ .f32 0xFF800000#32))
    (broadcastInDim S8192 ![] bcast_S_S8192 (constant S_ .f32 0x00000000#32))

/-- The masked logits, a row per token. -/
def logits (x : FVec Ideal S4x576x8192 .f32) : FVec Ideal S2304x8192 .f32 :=
  addf (shapeCast S2304x8192 x shapeCasts_S4x576x8192_S2304x8192)
    (broadcastInDim S2304x8192 ![0, 1] bcast_S1x8192_S2304x8192_0_1 (broadcastInDim S1x8192 ![1] bcast_S8192_S1x8192_1 maskRow))

/-- The index of each row's greatest element. -/
def argmax (l : FVec Ideal S2304x8192 .f32) : IVec S2304 32 :=
  fun j => (Host.argReduce reducer_argmax_f32_i32 l (iotaInDim S2304x8192 32 1) (constant S_ .f32 0xFF800000#32)
    (constantI S_ 32 0#32) reducesTo_S2304x8192_S2304_d1 h_S_ j).2

/-- One where the column is the row's code, zero elsewhere. -/
def hard (k : IVec S2304 32) : FVec Ideal S2304x8192 .f32 :=
  uitofp .f32 (cmpi .eq (broadcastInDim S2304x8192 ![0, 1] bcast_S2304x1_S2304x8192_0_1 (broadcastInDim S2304x1 ![0] bcast_S2304_S2304x1_0 k))
    (broadcastInDim S2304x8192 ![0, 1] bcast_S1x8192_S2304x8192_0_1 (iotaInDim S1x8192 32 1)))

/-- The mean of the codes' one-hot rows. -/
def hardProbs (h : FVec Ideal S2304x8192 .f32) : FVec Ideal S8192 .f32 :=
  Host.divf (Host.reduceAdd h (constant S_ .f32 0x00000000#32) reducesTo_S2304x8192_S8192_d0 h_S_)
    (broadcastInDim S8192 ![] bcast_S_S8192 (constant S_ .f32 0x45100000#32))

/-- The perplexity of the codes' frequencies. -/
def codePpl (p : FVec Ideal S8192 .f32) : FVec Ideal S_ .f32 :=
  Host.reduceAdd (Host.exp (Host.negf (Host.reduceAdd
    (mulf p (Host.log (addf p (broadcastInDim S8192 ![] bcast_S_S8192 (constant S_ .f32 0x33D6BF95#32)))))
    (constant S_ .f32 0x00000000#32) reducesTo_S8192_S_d0 h_S_))) (constant S_ .f32 0x00000000#32) reducesTo_S_S_d h_S_

/-- The exponentials of a row against its greatest element, at one column per token. -/
def expo3 (y : FVec Ideal S2304x1x8192 .f32) : FVec Ideal S2304x1x8192 .f32 :=
  Host.exp (subf y (broadcastInDim S2304x1x8192 ![0, 1, 2] bcast_S2304x1x1_S2304x1x8192_0_1_2
    (broadcastInDim S2304x1x1 ![0, 1] bcast_S2304x1_S2304x1x1_0_1
      (maximumf (broadcastInDim S2304x1 ![] bcast_S_S2304x1 (constant S_ .f32 0xFF800000#32))
        (Host.reduce FloatOps.maximumf y (constant S_ .f32 0xFF800000#32) reducesTo_S2304x1x8192_S2304x1_d2 h_S_)))))

/-- The rows' softmax, at one column per token. -/
def soft3 (y : FVec Ideal S2304x1x8192 .f32) : FVec Ideal S2304x1x8192 .f32 :=
  Host.divf (expo3 y) (broadcastInDim S2304x1x8192 ![0, 1, 2] bcast_S2304x1x1_S2304x1x8192_0_1_2
    (broadcastInDim S2304x1x1 ![0, 1] bcast_S2304x1_S2304x1x1_0_1
      (Host.reduceAdd (expo3 y) (constant S_ .f32 0x00000000#32) reducesTo_S2304x1x8192_S2304x1_d2 h_S_)))

/-- The mean of the rows' softmax. -/
def avgProbs (l : FVec Ideal S2304x8192 .f32) : FVec Ideal S1x8192 .f32 :=
  Host.divf (Host.reduceAdd (soft3 (shapeCast S2304x1x8192 l shapeCasts_S2304x8192_S2304x1x8192)) (constant S_ .f32 0x00000000#32)
      reducesTo_S2304x1x8192_S1x8192_d0 h_S_)
    (broadcastInDim S1x8192 ![] bcast_S_S1x8192 (constant S_ .f32 0x45100000#32))

/-- The perplexity of the mean softmax. -/
def probPpl (p : FVec Ideal S1x8192 .f32) : FVec Ideal S_ .f32 :=
  Host.reduceAdd (Host.exp (Host.negf (Host.reduceAdd
    (mulf p (Host.log (addf p (broadcastInDim S1x8192 ![] bcast_S_S1x8192 (constant S_ .f32 0x33D6BF95#32)))))
    (constant S_ .f32 0x00000000#32) reducesTo_S1x8192_S1_d1 h_S_))) (constant S_ .f32 0x00000000#32) reducesTo_S1_S_d0 h_S_

/-- The rows' exponentials, batch by time. -/
def expoT (y : FVec Ideal S4x576x8192 .f32) : FVec Ideal S4x576x8192 .f32 :=
  Host.exp (subf y (broadcastInDim S4x576x8192 ![0, 1, 2] bcast_S4x576x1_S4x576x8192_0_1_2
    (broadcastInDim S4x576x1 ![0, 1] bcast_S4x576_S4x576x1_0_1
      (maximumf (broadcastInDim S4x576 ![] bcast_S_S4x576 (constant S_ .f32 0xFF800000#32))
        (Host.reduce FloatOps.maximumf y (constant S_ .f32 0xFF800000#32) reducesTo_S4x576x8192_S4x576_d2 h_S_)))))

/-- The rows' softmax, time by batch. -/
def softT (y : FVec Ideal S4x576x8192 .f32) : FVec Ideal S576x4x8192 .f32 :=
  transpose S576x4x8192 [1, 0, 2] (Host.divf (expoT y) (broadcastInDim S4x576x8192 ![0, 1, 2] bcast_S4x576x1_S4x576x8192_0_1_2
    (broadcastInDim S4x576x1 ![0, 1] bcast_S4x576_S4x576x1_0_1
      (Host.reduceAdd (expoT y) (constant S_ .f32 0x00000000#32) reducesTo_S4x576x8192_S4x576_d2 h_S_))))
    transposes_S4x576x8192_S576x4x8192_1_0_2

/-- The mean over the batches of the rows' entropies. -/
def entropies (p : FVec Ideal S576x4x8192 .f32) : FVec Ideal S576 .f32 :=
  Host.divf (Host.reduceAdd (Host.negf (Host.reduceAdd
      (select (cmpf .ogt p (broadcastInDim S576x4x8192 ![] bcast_S_S576x4x8192 (constant S_ .f32 0x00000000#32)))
        (mulf p (Host.log p)) (broadcastInDim S576x4x8192 ![] bcast_S_S576x4x8192 (constant S_ .f32 0x00000000#32)))
      (constant S_ .f32 0x00000000#32) reducesTo_S576x4x8192_S576x4_d2 h_S_)) (constant S_ .f32 0x00000000#32) reducesTo_S576x4_S576_d1 h_S_)
    (broadcastInDim S576 ![] bcast_S_S576 (constant S_ .f32 0x40800000#32))

/-- The logits over the temperature. -/
def tempered (l : FVec Ideal S2304x8192 .f32) : FVec Ideal S2304x8192 .f32 :=
  Host.divf l (broadcastInDim S2304x8192 ![] bcast_S_S2304x8192 (constant S_ .f32 0x3DCCCCCD#32))

/-- The rows' exponentials. -/
def expo2 (y : FVec Ideal S2304x8192 .f32) : FVec Ideal S2304x8192 .f32 :=
  Host.exp (subf y (broadcastInDim S2304x8192 ![0, 1] bcast_S2304x1_S2304x8192_0_1 (broadcastInDim S2304x1 ![0] bcast_S2304_S2304x1_0
      (maximumf (broadcastInDim S2304 ![] bcast_S_S2304 (constant S_ .f32 0xFF800000#32))
        (Host.reduce FloatOps.maximumf y (constant S_ .f32 0xFF800000#32) reducesTo_S2304x8192_S2304_d1 h_S_)))))

/-- The rows' softmax. -/
def soft2 (y : FVec Ideal S2304x8192 .f32) : FVec Ideal S2304x8192 .f32 :=
  Host.divf (expo2 y) (broadcastInDim S2304x8192 ![0, 1] bcast_S2304x1_S2304x8192_0_1 (broadcastInDim S2304x1 ![0] bcast_S2304_S2304x1_0
      (Host.reduceAdd (expo2 y) (constant S_ .f32 0x00000000#32) reducesTo_S2304x8192_S2304_d1 h_S_)))

/-- The straight-through codes: the one-hot row plus the softmax minus the softmax. -/
def quantised (l : FVec Ideal S2304x8192 .f32) : FVec Ideal S2304x8192 .f32 :=
  subf (addf (hard (argmax l)) (soft2 (tempered l))) (soft2 (tempered l))

/-- The share of the codes unused. -/
def diversity (p : FVec Ideal S_ .f32) : FVec Ideal S_ .f32 :=
  Host.divf (subf (constant S_ .f32 0x46000000#32) p) (constant S_ .f32 0x46000000#32)

/-- A call of the argument of the maximum, its buffers any, is `argmax` of the call's operand. -/
theorem argmax_call (A : StableHlo.TRef sig ⟨S2304x8192, .f32⟩) (φ : fn_argmax.Bufs) (l : A.ref.ty.Contents (Elt Ideal)) :
    φ.v1_1.toBuf (Val := Elt Ideal) (fun j => (Host.argReduce (F := Ideal) (s := S2304x8192) (reducer_argmax_f32_i32 (F := Ideal)) (A.ofBuf l)
      (φ.v0.ofBuf (φ.v0.toBuf (Val := Elt Ideal) (iotaInDim S2304x8192 32 1)))
      (φ.cst.ofBuf (φ.cst.toBuf (Val := Elt Ideal) (constant (F := Ideal) S_ .f32 0xFF800000#32)))
      (φ.c.ofBuf (φ.c.toBuf (Val := Elt Ideal) (constantI S_ 32 0#32))) reducesTo_S2304x8192_S2304_d1 h_S_ j).2)
      = φ.v1_1.toBuf (Val := Elt Ideal) (argmax (A.ofBuf l)) := by
  simp only [StableHlo.TRef.ofBuf_toBuf]
  rfl

/-- A call of the one-hot rows, its buffers any, is `hard` of the call's operand. -/
theorem one_hot_call (A : StableHlo.TRef sig ⟨S2304, .i32⟩) (φ : fn_one_hot.Bufs) (k : A.ref.ty.Contents (Elt Ideal)) :
    φ.v5.toBuf (Val := Elt Ideal) (uitofp (F := Ideal) (s := S2304x8192) (w := 1) .f32 (φ.v4.ofBuf (φ.v4.toBuf (Val := Elt Ideal) (cmpi (s := S2304x8192) (w := 32) .eq
      (φ.v2.ofBuf (φ.v2.toBuf (Val := Elt Ideal) (broadcastInDim S2304x8192 ![0, 1] bcast_S2304x1_S2304x8192_0_1
        (φ.v0.ofBuf (φ.v0.toBuf (Val := Elt Ideal) (broadcastInDim S2304x1 ![0] bcast_S2304_S2304x1_0 (A.ofBuf k)))))))
      (φ.v3.ofBuf (φ.v3.toBuf (Val := Elt Ideal) (broadcastInDim S2304x8192 ![0, 1] bcast_S1x8192_S2304x8192_0_1
        (φ.v1.ofBuf (φ.v1.toBuf (Val := Elt Ideal) (iotaInDim S1x8192 32 1))))))))))
      = φ.v5.toBuf (Val := Elt Ideal) (hard (A.ofBuf k)) := by
  simp only [StableHlo.TRef.ofBuf_toBuf]
  rfl

set_option maxHeartbeats 4000000 in
/-- The reference's run: every execution ends with each result at its function of the argument, the argument as launched. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v94)
          = shapeCast S1x1 (codePpl (hardProbs (hard (argmax (logits (m ((c.tc : Thread nD τ).loc main_arg0))))))) shapeCasts_S_S1x1
      ∧ r.2.mem ((c.tc : Thread nD τ).loc main_v95)
          = shapeCast S2x1x288 (entropies (softT (shapeCast S4x576x8192 (logits (m ((c.tc : Thread nD τ).loc main_arg0))) shapeCasts_S2304x8192_S4x576x8192))) shapeCasts_S576_S2x1x288
      ∧ r.2.mem ((c.tc : Thread nD τ).loc main_v96)
          = shapeCast S1x1 (probPpl (avgProbs (logits (m ((c.tc : Thread nD τ).loc main_arg0))))) shapeCasts_S_S1x1
      ∧ r.2.mem ((c.tc : Thread nD τ).loc main_v89)
          = shapeCast S4x576x8192 (quantised (logits (m ((c.tc : Thread nD τ).loc main_arg0)))) shapeCasts_S2304x8192_S4x576x8192
      ∧ r.2.mem ((c.tc : Thread nD τ).loc main_v97)
          = shapeCast S1x1 (diversity (probPpl (avgProbs (logits (m ((c.tc : Thread nD τ).loc main_arg0)))))) shapeCasts_S_S1x1
      ∧ r.2.mem ((c.tc : Thread nD τ).loc main_v98)
          = shapeCast S8x1x288 (shapeCast S4x576x1 (argmax (quantised (logits (m ((c.tc : Thread nD τ).loc main_arg0))))) shapeCasts_S2304_S4x576x1) shapeCasts_S4x576x1_S8x1x288
      ∧ r.2.mem ((c.tc : Thread nD τ).loc main_arg0) = m ((c.tc : Thread nD τ).loc main_arg0)) := by
  hlo_run
  · refine congrArg (fun h => shapeCast S1x1 (codePpl (hardProbs h)) shapeCasts_S_S1x1) ?_
    refine (one_hot_call (.of main_v15) main_call2 _).trans (congrArg hard ?_)
    refine (argmax_call (.of main_v14) main_call1 _).trans (congrArg argmax ?_)
    rfl
  · rfl
  · rfl
  · refine congrArg₂ (fun h s => shapeCast S4x576x8192 (subf (addf h s) s) shapeCasts_S2304x8192_S4x576x8192) ?_ ?_
    · refine (one_hot_call (.of main_v15) main_call2 _).trans (congrArg hard ?_)
      refine (argmax_call (.of main_v14) main_call1 _).trans (congrArg argmax ?_)
      rfl
    · rfl
  · rfl
  · refine congrArg (fun k => shapeCast S8x1x288 (shapeCast S4x576x1 k shapeCasts_S2304_S4x576x1) shapeCasts_S4x576x1_S8x1x288) ?_
    refine (argmax_call (.of main_v88) main_call4 _).trans (congrArg argmax ?_)
    refine congrArg₂ (fun h s => subf (addf h s) s) ?_ ?_
    · refine (one_hot_call (.of main_v15) main_call2 _).trans (congrArg hard ?_)
      refine (argmax_call (.of main_v14) main_call1 _).trans (congrArg argmax ?_)
      rfl
    · rfl

/-- The reference's frame: every execution ends with the argument as launched and every semaphore at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)) ∧ r.2.sem = fun _ => 0) :=
  θ_run_mono (run m g) fun r h => ⟨fun c => (h c).2.2.2.2.2.2, sem_eq_zero_of_no_sems rfl _⟩

end Cert.ReferenceIdeal.Vq

end
-- ==== Proof.RefRow.lean ====
module

public import proofs.«01_k».proof.Proof.Ref
public import proofs.«01_k».proof.Proof.Spec

@[expose] public section

set_option maxRecDepth 16384

noncomputable section

namespace Cert.ReferenceIdeal.Vq

open Idealize.ShloMosaic
open Cert.ReferenceIdeal
open Facts₀

/-! The reference's stages at coordinates. -/

/-! ## The masked logits -/

/-- The mask at a column. -/
theorem maskRow_at (j : Fin 8192) : maskRow (ix1 j) = if j.val = 0 ∨ j.val = 2 ∨ j.val = 3 then ⊥ else 0 := by
  have hj := j.isLt
  pointwise [maskRow]
  rw [Row.bits_bot]
  show Scalar.select (IntOp.ori (IntOp.ori (IntOp.cmpi CmpIPredicate.eq (BitVec.ofNat 32 j.val) (BitVec.ofNat 32 0))
    (IntOp.cmpi CmpIPredicate.eq (BitVec.ofNat 32 j.val) (BitVec.ofNat 32 2))) (IntOp.cmpi CmpIPredicate.eq (BitVec.ofNat 32 j.val) (BitVec.ofNat 32 3))) _ _ = _
  rw [Row.cmpi_col (by omega) (by omega), Row.cmpi_col (by omega) (by omega), Row.cmpi_col (by omega) (by omega)]
  by_cases h0 : j.val = 0
  · simp [h0, Scalar.select, IntOp.ori]
  · by_cases h2 : j.val = 2
    · simp [h2, Scalar.select, IntOp.ori]
    · by_cases h3 : j.val = 3
      · simp [h3, Scalar.select, IntOp.ori]
      · simp [h0, h2, h3, Scalar.select, IntOp.ori]

/-- A row of the masked logits is that row of the argument, masked. -/
theorem logits_at (x : FVec Ideal S4x576x8192 .f32) (n : Fin 2304) (j : Fin 8192) : logits x (ix2 n j) = Row.flatRow x n j := by
  have h : logits x (ix2 n j) = x (ix3 ⟨n.val / 576, by omega⟩ ⟨n.val % 576, by omega⟩ j) + maskRow (ix1 j) := by
    pointwise [logits]
  rw [h, maskRow_at]
  unfold Row.flatRow Row.row
  split_ifs
  · exact EReal.add_bot _
  · exact add_zero _

/-- The same, a row at once. -/
theorem logits_row (x : FVec Ideal S4x576x8192 .f32) (n : Fin 2304) : (fun j => logits x (ix2 n j)) = Row.flatRow x n :=
  funext fun j => logits_at x n j

/-! ## The codes -/

/-- The argument of the maximum of each row of an array, kept in step with the column numbers: the first column the
    row's greatest element is at, when the row is not all `-∞`. -/
theorem argmax_rows {a b : ℕ} [NeZero b] (hb : b ≤ 8192) (l : FVec Ideal ⟨2, ![a, b]⟩ .f32) (x : FVec Ideal S_ .f32) (k : IVec S_ 32)
    (hx : ∀ i, x i = (⊥ : EReal)) (hk : ∀ i, k i = 0#32) (h' : (⟨2, ![a, b]⟩ : Shape).ReducesTo [1] ⟨1, ![a]⟩) (hu : 0 < S_.numel)
    (n : Fin a) (h : ∃ j, l (ix2 n j) ≠ ⊥) :
    (Host.argReduce Row.pick l (iotaInDim ⟨2, ![a, b]⟩ 32 1) x k h' hu (ix1 n)).2 = BitVec.ofNat 32 (Row.first fun j => l (ix2 n j)).val := by
  have hdrop : ∀ (r : Fin a) (j : Fin b), h'.drop (ix2 r j) = ix1 r := fun r j => by
    funext q
    match q with
    | ⟨0, _⟩ => rfl
  rw [Ideal.argReduce_eq_reduce2, Host.reduce2_eq_foldl_fiber, hx, hk]
  refine Row.foldl_pick_first hb (fun j => l (ix2 n j)) h _ (fun p hp => ?_) fun j => ?_
  · obtain ⟨m, hm, rfl⟩ := List.mem_map.mp hp
    have hm' := of_decide_eq_true (List.mem_filter.mp hm).2
    generalize (⟨2, ![a, b]⟩ : Shape).rowMajor.symm m = i at hm'
    obtain ⟨r, q, rfl⟩ : ∃ (r : Fin a) (q : Fin b), i = ix2 r q := ⟨i 0, i 1, by
      funext q; match q with | ⟨0, _⟩ => rfl | ⟨1, _⟩ => rfl⟩
    rw [hdrop] at hm'
    obtain rfl : r = n := congrFun hm' 0
    exact ⟨q, rfl⟩
  · refine List.mem_map.mpr ⟨(⟨2, ![a, b]⟩ : Shape).rowMajor (ix2 n j), List.mem_filter.mpr ⟨List.mem_finRange _, ?_⟩, ?_⟩
    · rw [Equiv.symm_apply_apply, hdrop]; simp
    · rw [Equiv.symm_apply_apply]; rfl

/-- The constant the maxima start from is `-∞`. -/
theorem bot_at (i : S_.Idx) : constant (F := Ideal) S_ .f32 0xFF800000#32 i = (⊥ : EReal) := Row.bits_bot

/-- The body of the argument of the maximum picks the better of two pairs. -/
theorem pick_eq : reducer_argmax_f32_i32 (F := Ideal) = Row.pick := rfl

/-- The argument of the maximum, with that body. -/
theorem argmax_eq (l : FVec Ideal S2304x8192 .f32) : argmax l = fun j => (Host.argReduce Row.pick l (iotaInDim S2304x8192 32 1) (constant S_ .f32 0xFF800000#32) (constantI S_ 32 0#32) reducesTo_S2304x8192_S2304_d1 h_S_ j).2 := by
  unfold argmax
  rw [pick_eq]

/-- The argument of the maximum of a row not all `-∞`: the first column the row's greatest element is at. -/
theorem argmax_at (l : FVec Ideal S2304x8192 .f32) (n : Fin 2304) (h : ∃ j, l (ix2 n j) ≠ ⊥) :
    argmax l (ix1 n) = BitVec.ofNat 32 (Row.first fun j => l (ix2 n j)).val := by
  rw [argmax_eq l]
  exact argmax_rows le_rfl l _ _ bot_at (fun _ => rfl) reducesTo_S2304x8192_S2304_d1 h_S_ n h

/-- The one-hot row of a code. -/
theorem hard_at (k : IVec S2304 32) (n : Fin 2304) (j c : Fin 8192) (hc : k (ix1 n) = BitVec.ofNat 32 c.val) :
    hard k (ix2 n j) = if j = c then 1 else 0 := by
  have hj := j.isLt
  have hc' := c.isLt
  pointwise [hard]
  rw [hc, Row.cmpi_col (by omega) (by omega)]
  by_cases h : j = c
  · subst h; rw [if_pos rfl, decide_eq_true rfl]; norm_num [FloatOps.uitofp]
    exact congrArg Nat.cast (by decide : BitVec.toNat 1#1 = 1)
  · rw [if_neg h, decide_eq_false fun h' => h (Fin.ext h'.symm)]
    norm_num [FloatOps.uitofp]

/-- The one-hot row of a row's code. -/
theorem hard_row (l : FVec Ideal S2304x8192 .f32) (n : Fin 2304) (h : ∃ j, l (ix2 n j) ≠ ⊥) (j : Fin 8192) :
    hard (argmax l) (ix2 n j) = Row.oneHot (fun j => l (ix2 n j)) j :=
  hard_at _ n j _ (argmax_at l n h)

/-! ## The perplexities -/

/-- A sum over no axis of a single number is the number. -/
theorem sum_none (v : S_.Idx → EReal) : Ideal.hostReduceAdd reducesTo_S_S_d v 0 ix0 = v ix0 := by
  have hs : ∀ i : S_.Idx, i = ix0 := fun i => funext fun q => q.elim0
  unfold Ideal.hostReduceAdd
  rw [zero_add]
  refine Finset.sum_eq_single_of_mem ix0 (Finset.mem_filter.mpr ⟨Finset.mem_univ _, hs _⟩) fun i _ hi => absurd (hs i) hi

/-- The frequency of a code. -/
theorem hardProbs_at (h : FVec Ideal S2304x8192 .f32) (j : Fin 8192) : hardProbs h (ix1 j) = (∑ n : Fin 2304, h (ix2 n j)) * ((1 / 2304 : ℝ) : EReal) := by
  pointwise [hardProbs]
  rw [Row.bits_2304, Ideal.div_coe (by norm_num)]

/-- The perplexity of the codes' frequencies. -/
theorem codePpl_at (p : FVec Ideal S8192 .f32) : codePpl p ix0 = Row.perp fun j => p (ix1 j) := by
  have h : (Host.reduceAdd (mulf p (Host.log (addf p (broadcastInDim S8192 ![] bcast_S_S8192 (constant S_ .f32 0x33D6BF95#32)))))
    (constant S_ .f32 0x00000000#32) reducesTo_S8192_S_d0 h_S_) ix0 = ∑ j, p (ix1 j) * Ideal.log (p (ix1 j) + Ideal.ofBits .f32 0x33D6BF95#32) := by
    pointwise
  pointwise [codePpl]
  refine (sum_none _).trans ?_
  unfold Row.perp
  rw [zero_sub, ← h]
  rfl

/-- The perplexity of a row of probabilities. -/
theorem probPpl_at (p : FVec Ideal S1x8192 .f32) : probPpl p ix0 = Row.perp fun j => p (ix2 0 j) := by
  unfold Row.perp
  pointwise [probPpl]
  rw [zero_sub, Fin.sum_univ_one]

/-- The share unused, of a perplexity. -/
theorem diversity_at (p : FVec Ideal S_ .f32) : diversity p ix0 = (((8192 : ℝ) : EReal) - p ix0) * ((1 / 8192 : ℝ) : EReal) := by
  pointwise [diversity]
  rw [Row.bits_8192, Ideal.div_coe (by norm_num)]

/-! ## The softmax of a row -/

/-- The maximum of each row of an array. -/
theorem reduce_rows {a b : ℕ} (y : FVec Ideal ⟨2, ![a, b]⟩ .f32) (x : FVec Ideal S_ .f32) (hx : ∀ i, x i = (⊥ : EReal))
    (h' : (⟨2, ![a, b]⟩ : Shape).ReducesTo [1] ⟨1, ![a]⟩) (h : (⟨2, ![a, b]⟩ : Shape).Reduces [1] ⟨1, ![a]⟩) (hu : 0 < S_.numel) (n : Fin a) :
    Host.reduce FloatOps.maximumf y x h' hu (ix1 n) = Row.top fun j => y (ix2 n j) := by
  refine (Host.reduce_eq_fold_single FloatOps.maximumf y x h' h hu (ix1 n)).trans ?_
  rw [hx]
  refine congrArg (fun f => Finset.fold max ⊥ f Finset.univ) (funext fun k => congrArg y (funext fun q => Fin.ext ?_))
  match q with
  | ⟨0, _⟩ => rfl
  | ⟨1, _⟩ => rfl

/-- The maximum along the last axis of an array of rank three. -/
theorem reduce_last {a b d : ℕ} (y : FVec Ideal ⟨3, ![a, b, d]⟩ .f32) (x : FVec Ideal S_ .f32) (hx : ∀ i, x i = (⊥ : EReal))
    (h' : (⟨3, ![a, b, d]⟩ : Shape).ReducesTo [2] ⟨2, ![a, b]⟩) (h : (⟨3, ![a, b, d]⟩ : Shape).Reduces [2] ⟨2, ![a, b]⟩) (hu : 0 < S_.numel)
    (n : Fin a) (r : Fin b) :
    Host.reduce FloatOps.maximumf y x h' hu (ix2 n r) = Row.top fun j => y (ix3 n r j) := by
  refine (Host.reduce_eq_fold_single FloatOps.maximumf y x h' h hu (ix2 n r)).trans ?_
  rw [hx]
  refine congrArg (fun f => Finset.fold max ⊥ f Finset.univ) (funext fun k => congrArg y (funext fun q => Fin.ext ?_))
  match q with
  | ⟨0, _⟩ => rfl
  | ⟨1, _⟩ => rfl
  | ⟨2, _⟩ => rfl

/-- The larger of `-∞` and a number is the number. -/
theorem max_bits (v : EReal) : max (Ideal.ofBits .f32 0xFF800000#32) v = v := by
  rw [Row.bits_bot]; exact max_eq_right bot_le

/-- The exponentials of a row. -/
theorem expo2_at (y : FVec Ideal S2304x8192 .f32) (n : Fin 2304) (j : Fin 8192) : expo2 y (ix2 n j) = Row.ex (fun j => y (ix2 n j)) j := by
  have h : ∀ M : FVec Ideal S2304 .f32, (Host.exp (subf y (broadcastInDim S2304x8192 ![0, 1] bcast_S2304x1_S2304x8192_0_1
      (broadcastInDim S2304x1 ![0] bcast_S2304_S2304x1_0 (maximumf (broadcastInDim S2304 ![] bcast_S_S2304 (constant S_ .f32 0xFF800000#32)) M))))) (ix2 n j)
      = Ideal.exp (y (ix2 n j) - M (ix1 n)) := fun M => by
    pointwise
    rw [max_bits]
  refine (h _).trans (congrArg (fun v => Ideal.exp (y (ix2 n j) - v)) ?_)
  exact reduce_rows y _ bot_at reducesTo_S2304x8192_S2304_d1 (by decide) h_S_ n

/-- The softmax of a row. -/
theorem soft2_at (y : FVec Ideal S2304x8192 .f32) (n : Fin 2304) (j : Fin 8192) : soft2 y (ix2 n j) = Row.prob (fun j => y (ix2 n j)) j := by
  have h : soft2 y (ix2 n j) = Ideal.div (expo2 y (ix2 n j)) (∑ k, expo2 y (ix2 n k)) := by
    pointwise [soft2]
  rw [h, expo2_at, Finset.sum_congr rfl fun k _ => expo2_at y n k]
  rfl

/-- The exponentials of a row, at one column per token. -/
theorem expo3_at (y : FVec Ideal S2304x1x8192 .f32) (n : Fin 2304) (j : Fin 8192) : expo3 y (ix3 n 0 j) = Row.ex (fun j => y (ix3 n 0 j)) j := by
  have h : ∀ M : FVec Ideal S2304x1 .f32, (Host.exp (subf y (broadcastInDim S2304x1x8192 ![0, 1, 2] bcast_S2304x1x1_S2304x1x8192_0_1_2
    (broadcastInDim S2304x1x1 ![0, 1] bcast_S2304x1_S2304x1x1_0_1
      (maximumf (broadcastInDim S2304x1 ![] bcast_S_S2304x1 (constant S_ .f32 0xFF800000#32)) M))))) (ix3 n 0 j)
      = Ideal.exp (y (ix3 n 0 j) - M (ix2 n 0)) := fun M => by
    pointwise
    rw [max_bits]
  refine (h _).trans (congrArg (fun v => Ideal.exp (y (ix3 n 0 j) - v)) ?_)
  exact reduce_last y _ bot_at reducesTo_S2304x1x8192_S2304x1_d2 (by decide) h_S_ n 0

/-- The softmax of a row, at one column per token. -/
theorem soft3_at (y : FVec Ideal S2304x1x8192 .f32) (n : Fin 2304) (j : Fin 8192) : soft3 y (ix3 n 0 j) = Row.prob (fun j => y (ix3 n 0 j)) j := by
  have h : soft3 y (ix3 n 0 j) = Ideal.div (expo3 y (ix3 n 0 j)) (∑ k, expo3 y (ix3 n 0 k)) := by
    pointwise [soft3]
  rw [h, expo3_at, Finset.sum_congr rfl fun k _ => expo3_at y n k]
  rfl

/-- The exponentials of a row, batch by time. -/
theorem expoT_at (y : FVec Ideal S4x576x8192 .f32) (b : Fin 4) (s : Fin 576) (j : Fin 8192) : expoT y (ix3 b s j) = Row.ex (fun j => y (ix3 b s j)) j := by
  have h : ∀ M : FVec Ideal S4x576 .f32, (Host.exp (subf y (broadcastInDim S4x576x8192 ![0, 1, 2] bcast_S4x576x1_S4x576x8192_0_1_2
    (broadcastInDim S4x576x1 ![0, 1] bcast_S4x576_S4x576x1_0_1
      (maximumf (broadcastInDim S4x576 ![] bcast_S_S4x576 (constant S_ .f32 0xFF800000#32)) M))))) (ix3 b s j)
      = Ideal.exp (y (ix3 b s j) - M (ix2 b s)) := fun M => by
    pointwise
    rw [max_bits]
  refine (h _).trans (congrArg (fun v => Ideal.exp (y (ix3 b s j) - v)) ?_)
  exact reduce_last y _ bot_at reducesTo_S4x576x8192_S4x576_d2 (by decide) h_S_ b s

/-- The softmax of a row, time by batch. -/
theorem softT_at (y : FVec Ideal S4x576x8192 .f32) (s : Fin 576) (b : Fin 4) (j : Fin 8192) : softT y (ix3 s b j) = Row.prob (fun j => y (ix3 b s j)) j := by
  have h : softT y (ix3 s b j) = Ideal.div (expoT y (ix3 b s j)) (∑ k, expoT y (ix3 b s k)) := by
    pointwise [softT]
  rw [h, expoT_at, Finset.sum_congr rfl fun k _ => expoT_at y b s k]
  rfl

/-- The mean softmax of an array of logits. -/
theorem avgProbs_at (l : FVec Ideal S2304x8192 .f32) (j : Fin 8192) :
    avgProbs l (ix2 0 j) = (∑ n : Fin 2304, Row.prob (fun j => l (ix2 n j)) j) * ((1 / 2304 : ℝ) : EReal) := by
  have h : avgProbs l (ix2 0 j) = Ideal.div (∑ n : Fin 2304, soft3 (shapeCast S2304x1x8192 l shapeCasts_S2304x8192_S2304x1x8192) (ix3 n 0 j)) (Ideal.ofBits .f32 0x45100000#32) := by
    pointwise [avgProbs]
  have hs : ∀ (n : Fin 2304) (k : Fin 8192), shapeCast S2304x1x8192 l shapeCasts_S2304x8192_S2304x1x8192 (ix3 n 0 k) = l (ix2 n k) := fun n k => by
    pointwise
  rw [h, Row.bits_2304, Ideal.div_coe (by norm_num)]
  refine congrArg (· * _) (Finset.sum_congr rfl fun n _ => ?_)
  rw [soft3_at]
  exact congrArg (fun y => Row.prob y j) (funext fun k => hs n k)

/-- A choice on whether a number is positive. -/
theorem select_pos (v w : EReal) : Scalar.select (FloatOps.cmpf (F := Ideal) (φ := .f32) .ogt v 0) w 0 = if 0 < v then w else 0 := by
  show (if BitVec.ofBool (decide (0 < v)) = 1#1 then w else 0) = _
  by_cases h : 0 < v
  · rw [decide_eq_true h]; simp [h]
  · rw [decide_eq_false h]; simp [h]

/-- The mean entropy at a time, of probabilities that are softmaxes. -/
theorem entropies_at (p : FVec Ideal S576x4x8192 .f32) (s : Fin 576) (z : Fin 4 → Fin 8192 → EReal)
    (hp : ∀ b, (fun j => p (ix3 s b j)) = Row.prob (z b)) :
    entropies p (ix1 s) = (∑ b : Fin 4, Row.entropy (z b)) * ((1 / 4 : ℝ) : EReal) := by
  have h : entropies p (ix1 s) = Ideal.div (∑ b : Fin 4, -∑ j : Fin 8192, Scalar.select (FloatOps.cmpf (F := Ideal) (φ := .f32) .ogt (p (ix3 s b j)) 0)
      (p (ix3 s b j) * Ideal.log (p (ix3 s b j))) 0) (Ideal.ofBits .f32 0x40800000#32) := by
    pointwise [entropies]
  rw [h, Row.bits_4, Ideal.div_coe (by norm_num)]
  refine congrArg (· * _) (Finset.sum_congr rfl fun b _ => congrArg Neg.neg (Finset.sum_congr rfl fun j _ => ?_))
  rw [congrFun (hp b) j]
  exact select_pos _ _

/-- A logit over the temperature. -/
theorem tempered_at (l : FVec Ideal S2304x8192 .f32) (n : Fin 2304) (j : Fin 8192) :
    tempered l (ix2 n j) = Ideal.div (l (ix2 n j)) (Ideal.ofBits .f32 0x3DCCCCCD#32) := by
  pointwise [tempered]

/-- A row over a positive temperature is still a row a softmax is of. -/
theorem tempered_good (l : FVec Ideal S2304x8192 .f32) (n : Fin 2304) (h : Row.Good fun j => l (ix2 n j)) :
    Row.Good fun j => tempered l (ix2 n j) := by
  obtain ⟨r, hr, hb⟩ := Row.bits_temp
  have he : ∀ j, tempered l (ix2 n j) = l (ix2 n j) * ((1 / r : ℝ) : EReal) := fun j => by
    rw [tempered_at, hb, Ideal.div_coe hr.ne']
  have hp : 0 < 1 / r := by positivity
  have hk : ∀ v : EReal, v ≠ ⊤ → v * ((1 / r : ℝ) : EReal) ≠ ⊤ := fun v hv => by
    induction v using EReal.rec with
    | bot => rw [EReal.bot_mul_coe_of_pos hp]; exact bot_ne_top
    | coe a => rw [← EReal.coe_mul]; exact EReal.coe_ne_top _
    | top => exact absurd rfl hv
  obtain ⟨hT, i, hi⟩ := h
  refine ⟨fun j => ?_, i, ?_⟩
  · show tempered l (ix2 n j) ≠ ⊤
    rw [he j]
    exact hk _ (hT j)
  show tempered l (ix2 n i) ≠ ⊥
  rw [he i]
  lift l (ix2 n i) to ℝ using ⟨hT i, hi⟩ with a
  rw [← EReal.coe_mul]
  exact EReal.coe_ne_bot _

/-- The straight-through codes are the one-hot rows: the softmax added and taken away again is a real number. -/
theorem quantised_at (l : FVec Ideal S2304x8192 .f32) (n : Fin 2304) (h : Row.Good fun j => l (ix2 n j)) (j : Fin 8192) :
    quantised l (ix2 n j) = Row.oneHot (fun j => l (ix2 n j)) j := by
  refine (Row.add_sub_real _ ?_).trans (hard_row l n h.2 j)
  rw [soft2_at]
  exact Row.prob_real (tempered_good l n h) j

/-- The codes of the straight-through codes are the codes. -/
theorem recode_at (l : FVec Ideal S2304x8192 .f32) (n : Fin 2304) (h : Row.Good fun j => l (ix2 n j)) :
    argmax (quantised l) (ix1 n) = BitVec.ofNat 32 (Row.first fun j => l (ix2 n j)).val := by
  have hq : (fun j => quantised l (ix2 n j)) = Row.oneHot fun j => l (ix2 n j) := funext fun j => quantised_at l n h j
  rw [argmax_at (quantised l) n, hq, Row.first_oneHot]
  refine ⟨Row.first fun j => l (ix2 n j), ?_⟩
  rw [congrFun hq]
  unfold Row.oneHot
  rw [if_pos rfl]
  exact (by decide : (1 : EReal) ≠ ⊥)

end Cert.ReferenceIdeal.Vq

end
-- ==== Proof.RefVal.lean ====
module

public import proofs.«01_k».proof.Proof.RefRow

@[expose] public section

set_option maxRecDepth 16384

noncomputable section

namespace Cert.ReferenceIdeal.Vq

open Idealize.ShloMosaic
open Cert.ReferenceIdeal
open Facts₀

/-! The reference's results, of an argument of real numbers. -/

variable (x : FVec Ideal S4x576x8192 .f32)

/-- Every row of the masked logits is one a softmax is of. -/
theorem flat_good (hX : Row.Finite x) (n : Fin 2304) : Row.Good fun j => logits x (ix2 n j) := by
  rw [logits_row]
  exact Row.row_good hX _ _

/-- The rows numbered through, at batch `b` and time `s`. -/
theorem flat_row (b : Fin 4) (s : Fin 576) (n : Fin 2304) (h : n.val = b.val * 576 + s.val) : Row.flatRow x n = Row.row x b s := by
  have hs := s.isLt
  unfold Row.flatRow
  congr 1
  · exact Fin.ext (by show n.val / 576 = b.val; omega)
  · exact Fin.ext (by show n.val % 576 = s.val; omega)

/-- A single number as an array of one row and one column. -/
theorem one_at (v : FVec Ideal S_ .f32) (i : S1x1.Idx) : shapeCast S1x1 v shapeCasts_S_S1x1 i = v ix0 :=
  congrArg v (funext fun q => q.elim0)

/-- The perplexity of the codes. -/
theorem codePpl_eq (hX : Row.Finite x) : codePpl (hardProbs (hard (argmax (logits x)))) ix0 = Row.codePerp x := by
  have h : ∀ j, hardProbs (hard (argmax (logits x))) (ix1 j) = Row.hitCount x j * ((1 / 2304 : ℝ) : EReal) := fun j => by
    rw [hardProbs_at, Finset.sum_congr rfl fun n _ => hard_row (logits x) n (flat_good x hX n).2 j]
    simp only [logits_row]
    rw [Row.sum_flat x fun y => Row.oneHot y j]
    rfl
  rw [codePpl_at, funext h]
  rfl

/-- The perplexity of the mean softmax. -/
theorem probPpl_eq : probPpl (avgProbs (logits x)) ix0 = Row.probPerp x := by
  refine (probPpl_at _).trans (congrArg Row.perp (funext fun j => ?_))
  refine (avgProbs_at _ j).trans (congrArg (· * _) ?_)
  refine Eq.trans (Finset.sum_congr rfl fun n _ => ?_) (Row.sum_flat x fun y => Row.prob y j)
  rw [logits_row]

/-- The perplexity of the codes, as the result holds it. -/
theorem v94_eq (hX : Row.Finite x) :
    shapeCast S1x1 (codePpl (hardProbs (hard (argmax (logits x))))) shapeCasts_S_S1x1 = fun _ => Row.codePerp x :=
  funext fun i => (one_at _ i).trans (codePpl_eq x hX)

/-- The perplexity of the mean softmax, as the result holds it. -/
theorem v96_eq : shapeCast S1x1 (probPpl (avgProbs (logits x))) shapeCasts_S_S1x1 = fun _ => Row.probPerp x :=
  funext fun i => (one_at _ i).trans (probPpl_eq x)

/-- The share of the codes unused. -/
theorem v97_eq : shapeCast S1x1 (diversity (probPpl (avgProbs (logits x)))) shapeCasts_S_S1x1 = fun _ => Row.unused x :=
  funext fun i => (one_at _ i).trans ((diversity_at _).trans (by rw [probPpl_eq]; rfl))

/-- The mean entropies, the times in two halves. -/
theorem v95_eq : shapeCast S2x1x288 (entropies (softT (shapeCast S4x576x8192 (logits x) shapeCasts_S2304x8192_S4x576x8192))) shapeCasts_S576_S2x1x288
    = fun i => Row.entMean x ⟨(i 0).val * 288 + (i 2).val, by have h0 : (i 0).val < 2 := (i 0).isLt; have h2 : (i 2).val < 288 := (i 2).isLt; omega⟩ := by
  have hc : ∀ (e : FVec Ideal S576 .f32) (a : Fin 2) (z : Fin 1) (r : Fin 288), shapeCast S2x1x288 e shapeCasts_S576_S2x1x288 (ix3 a z r)
      = e (ix1 ⟨a.val * 288 + r.val, by omega⟩) := fun e a z r => by
    pointwise
  have hl : ∀ (l : FVec Ideal S2304x8192 .f32) (b : Fin 4) (s : Fin 576) (j : Fin 8192), shapeCast S4x576x8192 l shapeCasts_S2304x8192_S4x576x8192 (ix3 b s j)
      = l (ix2 ⟨b.val * 576 + s.val, by omega⟩ j) := fun l b s j => by
    pointwise
  funext i
  idx_vars i
  refine (hc _ _ _ _).trans ?_
  refine entropies_at _ _ (fun b => Row.row x b _) fun b => funext fun j => ?_
  refine (softT_at _ _ b j).trans (congrArg (fun y => Row.prob y j) (funext fun k => ?_))
  refine (hl _ _ _ _).trans ((logits_at x _ k).trans ?_)
  rw [flat_row x b _ _ rfl]

/-- The one-hot rows. -/
theorem v89_eq (hX : Row.Finite x) : shapeCast S4x576x8192 (quantised (logits x)) shapeCasts_S2304x8192_S4x576x8192
    = fun i => Row.oneHot (Row.row x (i 0) (i 1)) (i 2) := by
  have hl : ∀ (l : FVec Ideal S2304x8192 .f32) (b : Fin 4) (s : Fin 576) (j : Fin 8192), shapeCast S4x576x8192 l shapeCasts_S2304x8192_S4x576x8192 (ix3 b s j)
      = l (ix2 ⟨b.val * 576 + s.val, by omega⟩ j) := fun l b s j => by
    pointwise
  funext i
  idx_vars i
  refine (hl _ _ _ _).trans ((quantised_at _ _ (flat_good x hX _) _).trans ?_)
  rw [logits_row, flat_row x _ _ _ rfl]

/-- The codes, the times of each batch in two halves. -/
theorem v98_eq (hX : Row.Finite x) :
    shapeCast S8x1x288 (shapeCast S4x576x1 (argmax (quantised (logits x))) shapeCasts_S2304_S4x576x1) shapeCasts_S4x576x1_S8x1x288
    = fun i => Row.code x ⟨(i 0).val / 2, by have h0 : (i 0).val < 8 := (i 0).isLt; omega⟩
        ⟨(i 0).val % 2 * 288 + (i 2).val, by have h2 : (i 2).val < 288 := (i 2).isLt; omega⟩ := by
  have hc : ∀ (k : IVec S2304 32) (a : Fin 8) (z : Fin 1) (r : Fin 288),
      shapeCast S8x1x288 (shapeCast S4x576x1 k shapeCasts_S2304_S4x576x1) shapeCasts_S4x576x1_S8x1x288 (ix3 a z r)
      = k (ix1 ⟨a.val * 288 + r.val, by omega⟩) := fun k a z r => by
    pointwise
  funext i
  idx_vars i
  refine (hc _ _ _ _).trans ((recode_at _ _ (flat_good x hX _)).trans ?_)
  rw [logits_row]
  unfold Row.code
  rw [flat_row]
  show i0.val * 288 + i2.val = i0.val / 2 * 576 + (i0.val % 2 * 288 + i2.val)
  omega

end Cert.ReferenceIdeal.Vq

end
-- ==== Proof.lean ====
module

public import proofs.«01_k».proof.Defs
public import proofs.«01_k».proof.Proof.BitsRun
public import proofs.«01_k».proof.Proof.IdealRun
public import proofs.«01_k».proof.Proof.Final
public import proofs.«01_k».proof.Proof.RefVal
public import Idealize.ShloMosaic.PureOps.IdealRules

@[expose] public section

noncomputable section

namespace Cert.Proof

open Idealize.ShloMosaic Idealize.SL.Sem

/-- The kernel's frame. -/
theorem kernel_frame : Cert.quiescent_Kernel := fun m ρ _ => Cert.Kernel.Vq.frame m ρ

/-- The idealized kernel's frame. -/
theorem ideal_frame : Cert.quiescent_KernelIdeal := fun m ρ _ => Cert.KernelIdeal.Vq.frame m ρ

/-- The reference's frame. -/
theorem reference_frame : Cert.quiescent_ReferenceIdeal := fun m g _ => Cert.ReferenceIdeal.Vq.frame m g

/-- The named constants: the mask is `-∞` and the reciprocal of the number of rows is that reciprocal. -/
theorem constants : Cert.preserves_Kernel_KernelIdeal :=
  ⟨⟨rfl, fun _ => rfl, rfl⟩, ⟨rfl, fun _ => rfl, rfl⟩⟩

/-- The precondition's one side condition: a single number is broadcast to the argument's shape. -/
theorem pre_facts : Cert.Pre_finite.Facts where
  bcast_S_S4x576x8192 := by decide

/-- The idealized kernel's frame again, the precondition given. -/
theorem ideal_frame_pre : Cert.quiescent_KernelIdeal_pre_finite (hPre_finite := pre_facts) := fun m ρ _ => Cert.KernelIdeal.Vq.frame m ρ

/-- The reference's frame again, the precondition given. -/
theorem reference_frame_pre : Cert.quiescent_ReferenceIdeal_pre_finite (hPre_finite := pre_facts) := fun m g _ => Cert.ReferenceIdeal.Vq.frame m g

/-- A number of magnitude below `+∞` is a real number. -/
theorem real_of_abs {v : EReal} (h : Ideal.cmp .olt (max v (-v)) (Ideal.ofBits .f32 0x7F800000#32) = 1#1) : v ≠ ⊥ ∧ v ≠ ⊤ := by
  rw [Row.bits_top] at h
  have hk : ∀ b : Bool, BitVec.ofBool b = 1#1 → b = true := by decide
  have h' : max v (-v) < ⊤ := of_decide_eq_true (hk _ h)
  constructor
  · rintro rfl
    simp at h'
  · rintro rfl
    simp at h'

/-- The precondition says the argument's elements are real numbers. -/
theorem finite_of_pre (x : Row.SX.Idx → EReal) (h : @Cert.Pre_finite.fn pre_facts Ideal _ x = fun _ => 1#1) : Row.Finite x :=
  fun i => real_of_abs (congrFun h i)

/-- The idealized kernel's results are the reference's. -/
theorem equal_results : Cert.algebraic_KernelIdeal_ReferenceIdeal_pre_finite (hPre_finite := pre_facts) := by
  intro m g m' g' hpre hagree
  have hX : ∀ c, Row.Finite (KernelIdeal.Vq.X m c) := fun c => finite_of_pre _ (hpre c)
  refine ⟨fun c => fun _ => Row.codePerp (KernelIdeal.Vq.X m c), fun c => KernelIdeal.Vq.entArr (KernelIdeal.Vq.X m c),
    fun c => fun _ => Row.probPerp (KernelIdeal.Vq.X m c), fun c => KernelIdeal.Vq.subArr (KernelIdeal.Vq.X m c),
    fun c => fun _ => Row.unused (KernelIdeal.Vq.X m c), fun c => KernelIdeal.Vq.tgtArr (KernelIdeal.Vq.X m c), ?_, ?_⟩
  · refine (θ_run _ _ _).mono (fun r h c => ?_) (θ_run_and (Cert.KernelIdeal.Vq.run_main m g) (Cert.KernelIdeal.Vq.frame m g))
    have hw := (h.1 c).1
    exact ⟨(hw 5).trans (KernelIdeal.Vq.final5 m c (hX c)), (hw 4).trans (KernelIdeal.Vq.final4 m c (hX c)),
      (hw 6).trans (KernelIdeal.Vq.final6 m c (hX c)), (hw 2).trans (KernelIdeal.Vq.final2 m c (hX c)),
      (hw 7).trans (KernelIdeal.Vq.final7 m c (hX c)), (hw 3).trans (KernelIdeal.Vq.final3 m c (hX c)), h.2.1 c⟩
  · refine (θ_run _ _ _).mono (fun r h c => ?_) (Cert.ReferenceIdeal.Vq.run m' g')
    obtain ⟨h0, h1, h2, h3, h4, h5, ha⟩ := h c
    rw [hagree c] at h0 h1 h2 h3 h4 h5
    exact ⟨h0.trans (ReferenceIdeal.Vq.v94_eq _ (hX c)), h1.trans (ReferenceIdeal.Vq.v95_eq _), h2.trans (ReferenceIdeal.Vq.v96_eq _),
      h3.trans (ReferenceIdeal.Vq.v89_eq _ (hX c)), h4.trans (ReferenceIdeal.Vq.v97_eq _), h5.trans (ReferenceIdeal.Vq.v98_eq _ (hX c)), ha⟩

/-- The claims. -/
theorem claim : Cert.Claim :=
  ⟨Cert.Kernel.Gen.facts, Cert.KernelIdeal.Gen.facts, Cert.ReferenceIdeal.Gen.facts, pre_facts,
    kernel_frame, ideal_frame, ideal_frame_pre, reference_frame, reference_frame_pre, constants, equal_results⟩

end Cert.Proof

end
